-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ascending [hPre_ascending : Cert.Pre_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ascending [hPre_ascending : Cert.Pre_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ascending [hKernelIdeal : Cert.KernelIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ascending m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ascending [hReferenceIdeal : Cert.ReferenceIdeal.Facts] [hPre_ascending : Cert.Pre_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S56x2x512 Cert.KernelIdeal.S56x1x512
  ∧ IdealRules.bf16_pair.HalfStatement Cert.KernelIdeal.S56x512
  ∧ IdealRules.bf16_pair.Statement Cert.KernelIdeal.S56x2x512 Cert.KernelIdeal.S56x1x512
  ∧ IdealRules.bf16_pair.Statement Cert.KernelIdeal.S1x2x512 Cert.KernelIdeal.S1x1x512
  ∧ IdealRules.bf16_pair.Statement Cert.KernelIdeal.S2x512 Cert.KernelIdeal.S1x512

def algebraic_KernelIdeal_ReferenceIdeal_pre_ascending [hKernelIdeal : Cert.KernelIdeal.Facts] [hReferenceIdeal : Cert.ReferenceIdeal.Facts] [hPre_ascending : Cert.Pre_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ascending : Cert.Pre_ascending.Facts),
    quiescent_Kernel (hKernel := hKernel)
    ∧ quiescent_KernelIdeal (hKernelIdeal := hKernelIdeal)
    ∧ quiescent_KernelIdeal_pre_ascending (hKernelIdeal := hKernelIdeal) (hPre_ascending := hPre_ascending)
    ∧ quiescent_ReferenceIdeal (hReferenceIdeal := hReferenceIdeal)
    ∧ quiescent_ReferenceIdeal_pre_ascending (hReferenceIdeal := hReferenceIdeal) (hPre_ascending := hPre_ascending)
    ∧ preserves_Kernel_KernelIdeal
    ∧ algebraic_KernelIdeal_ReferenceIdeal_pre_ascending (hKernelIdeal := hKernelIdeal) (hReferenceIdeal := hReferenceIdeal) (hPre_ascending := hPre_ascending)
-- ==== Pre_ascending.lean ====
abbrev S2x128x7168 : Shape := ⟨3, ![2, 128, 7168]⟩
abbrev S7168x2880 : Shape := ⟨2, ![7168, 2880]⟩
abbrev S2880 : Shape := ⟨1, ![2880]⟩
abbrev S11x1792x2880 : Shape := ⟨3, ![11, 1792, 2880]⟩
abbrev S11x896x2880 : Shape := ⟨3, ![11, 896, 2880]⟩
abbrev S11x56x2880 : Shape := ⟨3, ![11, 56, 2880]⟩
abbrev S12 : Shape := ⟨1, ![12]⟩
abbrev S_ : Shape := ⟨0, ![]⟩

class Facts : Prop where
  natLt_8_32 : 8 < 32
  bcast_S_S11x896x2880 : S_.BroadcastsInDim S11x896x2880 (![] : Fin 0 → Fin S11x896x2880.rank)
  reducesTo_S11x896x2880_S_d0_1_2 : S11x896x2880.ReducesTo [0, 1, 2] S_
  h_S_ : 0 < S_.numel

variable [Facts]

def fn_part1 {F : FTy → Type} [FloatOps F] (main_v7 : IVec S11x896x2880 1) (main_v16 : IVec S11x896x2880 1) : IVec S_ 1 :=
  let main_v17 : IVec S11x896x2880 1 := andi main_v7 main_v16
  let main_c_6 : IVec S_ 1 := constantI S_ 1 1#1
  let main_v18 : IVec S_ 1 := (fun x v => Host.reduce IntOp.andi x v reducesTo_S11x896x2880_S_d0_1_2 h_S_) main_v17 main_c_6
  main_v18

def fn {F : FTy → Type} [FloatOps F] (main_arg0 : FVec F S2x128x7168 .bf16) (main_arg1 : FVec F S7168x2880 .fp8e4m3) (main_arg2 : FVec F S2880 .f32) (main_arg3 : IVec S11x1792x2880 8) (main_arg4 : IVec S11x896x2880 8) (main_arg5 : FVec F S11x56x2880 .bf16) (main_arg6 : IVec S12 32) : IVec S_ 1 :=
  let main_v0 : IVec S11x896x2880 32 := (extui 32 · natLt_8_32) main_arg4
  let main_c : IVec S_ 32 := constantI S_ 32 3#32
  let main_v1 : IVec S11x896x2880 32 := broadcastInDim S11x896x2880 ![] bcast_S_S11x896x2880 main_c
  let main_v2 : IVec S11x896x2880 32 := andi main_v0 main_v1
  let main_c_0 : IVec S_ 32 := constantI S_ 32 2#32
  let main_v3 : IVec S11x896x2880 32 := broadcastInDim S11x896x2880 ![] bcast_S_S11x896x2880 main_c_0
  let main_v4 : IVec S11x896x2880 32 := Host.shrsi main_v0 main_v3
  let main_c_1 : IVec S_ 32 := constantI S_ 32 3#32
  let main_v5 : IVec S11x896x2880 32 := broadcastInDim S11x896x2880 ![] bcast_S_S11x896x2880 main_c_1
  let main_v6 : IVec S11x896x2880 32 := andi main_v4 main_v5
  let main_v7 : IVec S11x896x2880 1 := cmpi .slt main_v2 main_v6
  let main_c_2 : IVec S_ 32 := constantI S_ 32 4#32
  let main_v8 : IVec S11x896x2880 32 := broadcastInDim S11x896x2880 ![] bcast_S_S11x896x2880 main_c_2
  let main_v9 : IVec S11x896x2880 32 := Host.shrsi main_v0 main_v8
  let main_c_3 : IVec S_ 32 := constantI S_ 32 3#32
  let main_v10 : IVec S11x896x2880 32 := broadcastInDim S11x896x2880 ![] bcast_S_S11x896x2880 main_c_3
  let main_v11 : IVec S11x896x2880 32 := andi main_v9 main_v10
  let main_c_4 : IVec S_ 32 := constantI S_ 32 6#32
  let main_v12 : IVec S11x896x2880 32 := broadcastInDim S11x896x2880 ![] bcast_S_S11x896x2880 main_c_4
  let main_v13 : IVec S11x896x2880 32 := Host.shrsi main_v0 main_v12
  let main_c_5 : IVec S_ 32 := constantI S_ 32 3#32
  let main_v14 : IVec S11x896x2880 32 := broadcastInDim S11x896x2880 ![] bcast_S_S11x896x2880 main_c_5
  let main_v15 : IVec S11x896x2880 32 := andi main_v13 main_v14
  let main_v16 : IVec S11x896x2880 1 := cmpi .slt main_v11 main_v15
  fn_part1 (F := F) main_v7 main_v16
-- ==== Kernel.lean ====
abbrev S2x128x7168 : Shape := ⟨3, ![2, 128, 7168]⟩
abbrev S7168x2880 : Shape := ⟨2, ![7168, 2880]⟩
abbrev S2880 : Shape := ⟨1, ![2880]⟩
abbrev S11x1792x2880 : Shape := ⟨3, ![11, 1792, 2880]⟩
abbrev S11x896x2880 : Shape := ⟨3, ![11, 896, 2880]⟩
abbrev S11x56x2880 : Shape := ⟨3, ![11, 56, 2880]⟩
abbrev S12 : Shape := ⟨1, ![12]⟩
abbrev S256x2880 : Shape := ⟨2, ![256, 2880]⟩
abbrev S7168x512 : Shape := ⟨2, ![7168, 512]⟩
abbrev S512 : Shape := ⟨1, ![512]⟩
abbrev S1x1792x512 : Shape := ⟨3, ![1, 1792, 512]⟩
abbrev S1x896x512 : Shape := ⟨3, ![1, 896, 512]⟩
abbrev S1x56x512 : Shape := ⟨3, ![1, 56, 512]⟩
abbrev S256x512 : Shape := ⟨2, ![256, 512]⟩
abbrev S256x7168 : Shape := ⟨2, ![256, 7168]⟩
abbrev S56x512 : Shape := ⟨2, ![56, 512]⟩
abbrev S1 : Shape := ⟨1, ![1]⟩
abbrev S256x256 : Shape := ⟨2, ![256, 256]⟩
abbrev S2x128x256 : Shape := ⟨3, ![2, 128, 256]⟩
abbrev S1x512 : Shape := ⟨2, ![1, 512]⟩
abbrev S256x1 : Shape := ⟨2, ![256, 1]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S16x512 : Shape := ⟨2, ![16, 512]⟩
abbrev S8x8x512 : Shape := ⟨3, ![8, 8, 512]⟩
abbrev S8x1x512 : Shape := ⟨3, ![8, 1, 512]⟩
abbrev S8x512 : Shape := ⟨2, ![8, 512]⟩
abbrev S2x512 : Shape := ⟨2, ![2, 512]⟩

abbrev nBuf : Space → Nat
  | .hbm => 7
  | .vmem => 16
  | .smem => 1
  | _ => 0

abbrev bufTy : (tb : Table) → Fin (tcTables nBuf tb) → BufTy
  | .hbm, ⟨0, _⟩ => ⟨S2x128x7168, .bf16⟩
  | .hbm, ⟨1, _⟩ => ⟨S7168x2880, .fp8e4m3⟩
  | .hbm, ⟨2, _⟩ => ⟨S2880, .f32⟩
  | .hbm, ⟨3, _⟩ => ⟨S11x1792x2880, .i8⟩
  | .hbm, ⟨4, _⟩ => ⟨S11x896x2880, .i8⟩
  | .hbm, ⟨5, _⟩ => ⟨S11x56x2880, .bf16⟩
  | .hbm, ⟨6, _⟩ => ⟨S256x2880, .bf16⟩
  | .local _ .vmem, ⟨0, _⟩ => ⟨S2x128x7168, .bf16⟩
  | .local _ .vmem, ⟨1, _⟩ => ⟨S7168x512, .fp8e4m3⟩
  | .local _ .vmem, ⟨2, _⟩ => ⟨S7168x512, .fp8e4m3⟩
  | .local _ .vmem, ⟨3, _⟩ => ⟨S512, .f32⟩
  | .local _ .vmem, ⟨4, _⟩ => ⟨S512, .f32⟩
  | .local _ .vmem, ⟨5, _⟩ => ⟨S1x1792x512, .i8⟩
  | .local _ .vmem, ⟨6, _⟩ => ⟨S1x1792x512, .i8⟩
  | .local _ .vmem, ⟨7, _⟩ => ⟨S1x896x512, .i8⟩
  | .local _ .vmem, ⟨8, _⟩ => ⟨S1x896x512, .i8⟩
  | .local _ .vmem, ⟨9, _⟩ => ⟨S1x56x512, .bf16⟩
  | .local _ .vmem, ⟨10, _⟩ => ⟨S1x56x512, .bf16⟩
  | .local _ .vmem, ⟨11, _⟩ => ⟨S256x512, .bf16⟩
  | .local _ .vmem, ⟨12, _⟩ => ⟨S256x512, .bf16⟩
  | .local _ .vmem, ⟨13, _⟩ => ⟨S256x7168, .bf16⟩
  | .local _ .vmem, ⟨14, _⟩ => ⟨S256x512, .f32⟩
  | .local _ .vmem, ⟨15, _⟩ => ⟨S56x512, .i32⟩
  | .local _ .smem, ⟨0, _⟩ => ⟨S12, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![6, 11], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
@[reducible] def k0_t1_loop : Scf.Loop 32 :=
  let c0_i32_10 : BitVec 32 := 0#32
  let c28_i32 : BitVec 32 := 28#32
  let v35 : BitVec 32 := Scalar.addi c0_i32_10 c28_i32
  let c1_i32_11 : BitVec 32 := 1#32
  ⟨c0_i32_10, v35, c1_i32_11⟩
def k0_off3 (k0_t1 : Fin k0_t1_loop.trips) : Fin 3 → Nat :=
  let c0_13 : Index := 0#32
  let c0_i32_10 : BitVec 32 := 0#32
  let c1_i32_11 : BitVec 32 := 1#32
  let arg13 : BitVec 32 := Scf.iv c0_i32_10 c1_i32_11 k0_t1
  let c64_i32 : BitVec 32 := 64#32
  let v36 : BitVec 32 := Scalar.muli arg13 c64_i32
  let v37 : Index := Scalar.indexCast v36
  let c0_14 : Index := 0#32
  ![0, v37.toNat, 0]
def k0_off4 (k0_t1 : Fin k0_t1_loop.trips) : Fin 3 → Nat :=
  let c0_15 : Index := 0#32
  let c0_i32_10 : BitVec 32 := 0#32
  let c1_i32_11 : BitVec 32 := 1#32
  let arg13 : BitVec 32 := Scf.iv c0_i32_10 c1_i32_11 k0_t1
  let c32_i32 : BitVec 32 := 32#32
  let v40 : BitVec 32 := Scalar.muli arg13 c32_i32
  let v41 : Index := Scalar.indexCast v40
  let c0_16 : Index := 0#32
  ![0, v41.toNat, 0]
def k0_off5 (k0_t1 : Fin k0_t1_loop.trips) : Fin 2 → Nat :=
  let c2_i32 : BitVec 32 := 2#32
  let c0_i32_10 : BitVec 32 := 0#32
  let c1_i32_11 : BitVec 32 := 1#32
  let arg13 : BitVec 32 := Scf.iv c0_i32_10 c1_i32_11 k0_t1
  let v44 : BitVec 32 := Scalar.muli c2_i32 arg13
  let v45 : Index := Scalar.indexCast v44
  let c0_17 : Index := 0#32
  ![v45.toNat, 0]
def k0_off6 (k0_t1 : Fin k0_t1_loop.trips) : Fin 2 → Nat :=
  let c2_i32_18 : BitVec 32 := 2#32
  let c0_i32_10 : BitVec 32 := 0#32
  let c1_i32_11 : BitVec 32 := 1#32
  let arg13 : BitVec 32 := Scf.iv c0_i32_10 c1_i32_11 k0_t1
  let v47 : BitVec 32 := Scalar.muli c2_i32_18 arg13
  let c1_i32_19 : BitVec 32 := 1#32
  let v48 : BitVec 32 := Scalar.addi v47 c1_i32_19
  let v49 : Index := Scalar.indexCast v48
  let c0_20 : Index := 0#32
  ![v49.toNat, 0]
def k0_mult1 (k0_t1 : Fin k0_t1_loop.trips) : BitVec 32 :=
  let c0_i32_10 : BitVec 32 := 0#32
  let c1_i32_11 : BitVec 32 := 1#32
  let arg13 : BitVec 32 := Scf.iv c0_i32_10 c1_i32_11 k0_t1
  let c256_i32 : BitVec 32 := 256#32
  let v230 : BitVec 32 := Scalar.muli arg13 c256_i32
  v230
def k0_off7 (k0_t1 : Fin k0_t1_loop.trips) : Fin 2 → Nat :=
  let c0_45 : Index := 0#32
  let c0_i32_10 : BitVec 32 := 0#32
  let c1_i32_11 : BitVec 32 := 1#32
  let arg13 : BitVec 32 := Scf.iv c0_i32_10 c1_i32_11 k0_t1
  let c256_i32 : BitVec 32 := 256#32
  let v230 : BitVec 32 := Scalar.muli arg13 c256_i32
  let v231 : BitVec 32 := v230
  let v232 : Index := Scalar.indexCast v231
  ![0, v232.toNat]
def k0_cond4 (i : grid0.Coords) : BitVec 1 :=
  let arg1 : BitVec 32 := BitVec.ofNat 32 (i 1).val
  let c10_i32 : BitVec 32 := 10#32
  let v16 : BitVec 1 := Scalar.cmpi .eq arg1 c10_i32
  let v17 : BitVec 32 := Scalar.extui v16
  let c0_i32_5 : BitVec 32 := 0#32
  let v18 : BitVec 1 := Scalar.cmpi .ne v17 c0_i32_5
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x56x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
abbrev S2x128x7168 : Shape := ⟨3, ![2, 128, 7168]⟩
abbrev S7168x2880 : Shape := ⟨2, ![7168, 2880]⟩
abbrev S2880 : Shape := ⟨1, ![2880]⟩
abbrev S11x1792x2880 : Shape := ⟨3, ![11, 1792, 2880]⟩
abbrev S11x896x2880 : Shape := ⟨3, ![11, 896, 2880]⟩
abbrev S11x56x2880 : Shape := ⟨3, ![11, 56, 2880]⟩
abbrev S12 : Shape := ⟨1, ![12]⟩
abbrev S256x2880 : Shape := ⟨2, ![256, 2880]⟩
abbrev S7168x512 : Shape := ⟨2, ![7168, 512]⟩
abbrev S512 : Shape := ⟨1, ![512]⟩
abbrev S1x1792x512 : Shape := ⟨3, ![1, 1792, 512]⟩
abbrev S1x896x512 : Shape := ⟨3, ![1, 896, 512]⟩
abbrev S1x56x512 : Shape := ⟨3, ![1, 56, 512]⟩
abbrev S256x512 : Shape := ⟨2, ![256, 512]⟩
abbrev S256x7168 : Shape := ⟨2, ![256, 7168]⟩
abbrev S56x512 : Shape := ⟨2, ![56, 512]⟩
abbrev S56x2x512 : Shape := ⟨3, ![56, 2, 512]⟩
abbrev S56x1x512 : Shape := ⟨3, ![56, 1, 512]⟩
abbrev S1 : Shape := ⟨1, ![1]⟩
abbrev S256x256 : Shape := ⟨2, ![256, 256]⟩
abbrev S2x128x256 : Shape := ⟨3, ![2, 128, 256]⟩
abbrev S1x512 : Shape := ⟨2, ![1, 512]⟩
abbrev S256x1 : Shape := ⟨2, ![256, 1]⟩
abbrev S1x64x512 : Shape := ⟨3, ![1, 64, 512]⟩
abbrev S64x512 : Shape := ⟨2, ![64, 512]⟩
abbrev S1x32x512 : Shape := ⟨3, ![1, 32, 512]⟩
abbrev S32x512 : Shape := ⟨2, ![32, 512]⟩
abbrev S1x2x512 : Shape := ⟨3, ![1, 2, 512]⟩
abbrev S1x1x512 : Shape := ⟨3, ![1, 1, 512]⟩
abbrev S16x512 : Shape := ⟨2, ![16, 512]⟩
abbrev S8x8x512 : Shape := ⟨3, ![8, 8, 512]⟩
abbrev S8x1x512 : Shape := ⟨3, ![8, 1, 512]⟩
abbrev S8x512 : Shape := ⟨2, ![8, 512]⟩
abbrev S2x512 : Shape := ⟨2, ![2, 512]⟩

abbrev nBuf : Space → Nat
  | .hbm => 7
  | .vmem => 16
  | .smem => 1
  | _ => 0

abbrev bufTy : (tb : Table) → Fin (tcTables nBuf tb) → BufTy
  | .hbm, ⟨0, _⟩ => ⟨S2x128x7168, .bf16⟩
  | .hbm, ⟨1, _⟩ => ⟨S7168x2880, .fp8e4m3⟩
  | .hbm, ⟨2, _⟩ => ⟨S2880, .f32⟩
  | .hbm, ⟨3, _⟩ => ⟨S11x1792x2880, .i8⟩
  | .hbm, ⟨4, _⟩ => ⟨S11x896x2880, .i8⟩
  | .hbm, ⟨5, _⟩ => ⟨S11x56x2880, .bf16⟩
  | .hbm, ⟨6, _⟩ => ⟨S256x2880, .bf16⟩
  | .local _ .vmem, ⟨0, _⟩ => ⟨S2x128x7168, .bf16⟩
  | .local _ .vmem, ⟨1, _⟩ => ⟨S7168x512, .fp8e4m3⟩
  | .local _ .vmem, ⟨2, _⟩ => ⟨S7168x512, .fp8e4m3⟩
  | .local _ .vmem, ⟨3, _⟩ => ⟨S512, .f32⟩
  | .local _ .vmem, ⟨4, _⟩ => ⟨S512, .f32⟩
  | .local _ .vmem, ⟨5, _⟩ => ⟨S1x1792x512, .i8⟩
  | .local _ .vmem, ⟨6, _⟩ => ⟨S1x1792x512, .i8⟩
  | .local _ .vmem, ⟨7, _⟩ => ⟨S1x896x512, .i8⟩
  | .local _ .vmem, ⟨8, _⟩ => ⟨S1x896x512, .i8⟩
  | .local _ .vmem, ⟨9, _⟩ => ⟨S1x56x512, .bf16⟩
  | .local _ .vmem, ⟨10, _⟩ => ⟨S1x56x512, .bf16⟩
  | .local _ .vmem, ⟨11, _⟩ => ⟨S256x512, .bf16⟩
  | .local _ .vmem, ⟨12, _⟩ => ⟨S256x512, .bf16⟩
  | .local _ .vmem, ⟨13, _⟩ => ⟨S256x7168, .bf16⟩
  | .local _ .vmem, ⟨14, _⟩ => ⟨S256x512, .f32⟩
  | .local _ .vmem, ⟨15, _⟩ => ⟨S56x2x512, .bf16⟩
  | .local _ .smem, ⟨0, _⟩ => ⟨S12, .i32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 11], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
@[reducible] def k0_t1_loop : Scf.Loop 32 :=
  let c0_i32_10 : BitVec 32 := 0#32
  let c28_i32 : BitVec 32 := 28#32
  let v35 : BitVec 32 := Scalar.addi c0_i32_10 c28_i32
  let c1_i32_11 : BitVec 32 := 1#32
  ⟨c0_i32_10, v35, c1_i32_11⟩
def k0_off3 (k0_t1 : Fin k0_t1_loop.trips) : Fin 3 → Nat :=
  let c0_13 : Index := 0#32
  let c0_i32_10 : BitVec 32 := 0#32
  let c1_i32_11 : BitVec 32 := 1#32
  let arg13 : BitVec 32 := Scf.iv c0_i32_10 c1_i32_11 k0_t1
  let c64_i32 : BitVec 32 := 64#32
  let v36 : BitVec 32 := Scalar.muli arg13 c64_i32
  let v37 : Index := Scalar.indexCast v36
  let c0_14 : Index := 0#32
  ![0, v37.toNat, 0]
def k0_off4 (k0_t1 : Fin k0_t1_loop.trips) : Fin 3 → Nat :=
  let c0_15 : Index := 0#32
  let c0_i32_10 : BitVec 32 := 0#32
  let c1_i32_11 : BitVec 32 := 1#32
  let arg13 : BitVec 32 := Scf.iv c0_i32_10 c1_i32_11 k0_t1
  let c32_i32 : BitVec 32 := 32#32
  let v40 : BitVec 32 := Scalar.muli arg13 c32_i32
  let v41 : Index := Scalar.indexCast v40
  let c0_16 : Index := 0#32
  ![0, v41.toNat, 0]
def k0_off5 (k0_t1 : Fin k0_t1_loop.trips) : Fin 3 → Nat :=
  let c2_i32 : BitVec 32 := 2#32
  let c0_i32_10 : BitVec 32 := 0#32
  let c1_i32_11 : BitVec 32 := 1#32
  let arg13 : BitVec 32 := Scf.iv c0_i32_10 c1_i32_11 k0_t1
  let v44 : BitVec 32 := Scalar.muli c2_i32 arg13
  let v45 : Index := Scalar.indexCast v44
  let c0_17 : Index := 0#32
  ![v45.toNat, 0, 0]
def k0_off6 (k0_t1 : Fin k0_t1_loop.trips) : Fin 3 → Nat :=
  let c2_i32_18 : BitVec 32 := 2#32
  let c0_i32_10 : BitVec 32 := 0#32
  let c1_i32_11 : BitVec 32 := 1#32
  let arg13 : BitVec 32 := Scf.iv c0_i32_10 c1_i32_11 k0_t1
  let v47 : BitVec 32 := Scalar.muli c2_i32_18 arg13
  let c1_i32_19 : BitVec 32 := 1#32
  let v48 : BitVec 32 := Scalar.addi v47 c1_i32_19
  let v49 : Index := Scalar.indexCast v48
  let c0_20 : Index := 0#32
  ![v49.toNat, 0, 0]
def k0_mult1 (k0_t1 : Fin k0_t1_loop.trips) : BitVec 32 :=
  let c0_i32_10 : BitVec 32 := 0#32
  let c1_i32_11 : BitVec 32 := 1#32
  let arg13 : BitVec 32 := Scf.iv c0_i32_10 c1_i32_11 k0_t1
  let c256_i32 : BitVec 32 := 256#32
  let v230 : BitVec 32 := Scalar.muli arg13 c256_i32
  v230
def k0_off7 (k0_t1 : Fin k0_t1_loop.trips) : Fin 2 → Nat :=
  let c0_45 : Index := 0#32
  let c0_i32_10 : BitVec 32 := 0#32
  let c1_i32_11 : BitVec 32 := 1#32
  let arg13 : BitVec 32 := Scf.iv c0_i32_10 c1_i32_11 k0_t1
  let c256_i32 : BitVec 32 := 256#32
  let v230 : BitVec 32 := Scalar.muli arg13 c256_i32
  let v231 : BitVec 32 := v230
  let v232 : Index := Scalar.indexCast v231
  ![0, v232.toNat]
def k0_cond4 (i : grid0.Coords) : BitVec 1 :=
  let arg1 : BitVec 32 := BitVec.ofNat 32 (i 1).val
  let c10_i32 : BitVec 32 := 10#32
  let v16 : BitVec 1 := Scalar.cmpi .eq arg1 c10_i32
  let v17 : BitVec 32 := Scalar.extui v16
  let c0_i32_5 : BitVec 32 := 0#32
  let v18 : BitVec 1 := Scalar.cmpi .ne v17 c0_i32_5
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x56x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x128x7168 : Shape := ⟨3, ![2, 128, 7168]⟩
abbrev S7168x2880 : Shape := ⟨2, ![7168, 2880]⟩
abbrev S2880 : Shape := ⟨1, ![2880]⟩
abbrev S11x1792x2880 : Shape := ⟨3, ![11, 1792, 2880]⟩
abbrev S11x896x2880 : Shape := ⟨3, ![11, 896, 2880]⟩
abbrev S11x56x2880 : Shape := ⟨3, ![11, 56, 2880]⟩
abbrev S12 : Shape := ⟨1, ![12]⟩
abbrev S256x7168 : Shape := ⟨2, ![256, 7168]⟩
abbrev S256x2880 : Shape := ⟨2, ![256, 2880]⟩
abbrev S1x2880 : Shape := ⟨2, ![1, 2880]⟩
abbrev S_ : Shape := ⟨0, ![]⟩
abbrev S11x896x1x2880 : Shape := ⟨4, ![11, 896, 1, 2880]⟩
abbrev S11x896x2x2880 : Shape := ⟨4, ![11, 896, 2, 2880]⟩
abbrev S4 : Shape := ⟨1, ![4]⟩
abbrev S1x1x1x4x1 : Shape := ⟨5, ![1, 1, 1, 4, 1]⟩
abbrev S11x56x32x1x2880 : Shape := ⟨5, ![11, 56, 32, 1, 2880]⟩
abbrev S11x56x32x4x2880 : Shape := ⟨5, ![11, 56, 32, 4, 2880]⟩
abbrev S11x56x1x1x2880 : Shape := ⟨5, ![11, 56, 1, 1, 2880]⟩
abbrev S11x7168x2880 : Shape := ⟨3, ![11, 7168, 2880]⟩
abbrev S256 : Shape := ⟨1, ![256]⟩
abbrev S256x1 : Shape := ⟨2, ![256, 1]⟩
abbrev S11 : Shape := ⟨1, ![11]⟩
abbrev S1x11 : Shape := ⟨2, ![1, 11]⟩
abbrev S256x11 : Shape := ⟨2, ![256, 11]⟩
abbrev S256x11x2880 : Shape := ⟨3, ![256, 11, 2880]⟩
abbrev S256x11x1 : Shape := ⟨3, ![256, 11, 1]⟩

abbrev nBuf : Space → Nat
  | .hbm => 111
  | .vmem => 4
  | .smem => 0
  | _ => 0

abbrev bufTy : (tb : Table) → Fin (tcTables nBuf tb) → BufTy
  | .hbm, ⟨0, _⟩ => ⟨S2x128x7168, .bf16⟩
  | .hbm, ⟨1, _⟩ => ⟨S7168x2880, .fp8e4m3⟩
  | .hbm, ⟨2, _⟩ => ⟨S2880, .f32⟩
  | .hbm, ⟨3, _⟩ => ⟨S11x1792x2880, .i8⟩
  | .hbm, ⟨4, _⟩ => ⟨S11x896x2880, .i8⟩
  | .hbm, ⟨5, _⟩ => ⟨S11x56x2880, .bf16⟩
  | .hbm, ⟨6, _⟩ => ⟨S12, .i32⟩
  | .hbm, ⟨7, _⟩ => ⟨S256x7168, .bf16⟩
  | .hbm, ⟨8, _⟩ => ⟨S256x2880, .f32⟩
  | .hbm, ⟨9, _⟩ => ⟨S11x1792x2880, .i32⟩
  | .hbm, ⟨10, _⟩ => ⟨S_, .i32⟩
  | .hbm, ⟨11, _⟩ => ⟨S11x1792x2880, .i32⟩
  | .hbm, ⟨12, _⟩ => ⟨S11x1792x2880, .i32⟩
  | .hbm, ⟨13, _⟩ => ⟨S_, .i32⟩
  | .hbm, ⟨14, _⟩ => ⟨S11x1792x2880, .i32⟩
  | .hbm, ⟨15, _⟩ => ⟨S11x1792x2880, .i1⟩
  | .hbm, ⟨16, _⟩ => ⟨S_, .i32⟩
  | .hbm, ⟨17, _⟩ => ⟨S11x1792x2880, .i32⟩
  | .hbm, ⟨18, _⟩ => ⟨S11x1792x2880, .i32⟩
  | .hbm, ⟨19, _⟩ => ⟨S11x1792x2880, .i32⟩
  | .hbm, ⟨20, _⟩ => ⟨S11x1792x2880, .bf16⟩
  | .hbm, ⟨21, _⟩ => ⟨S_, .i32⟩
  | .hbm, ⟨22, _⟩ => ⟨S11x1792x2880, .i32⟩
  | .hbm, ⟨23, _⟩ => ⟨S11x1792x2880, .i32⟩
  | .hbm, ⟨24, _⟩ => ⟨S_, .i32⟩
  | .hbm, ⟨25, _⟩ => ⟨S11x1792x2880, .i32⟩
  | .hbm, ⟨26, _⟩ => ⟨S11x1792x2880, .i1⟩
  | .hbm, ⟨27, _⟩ => ⟨S_, .i32⟩
  | .hbm, ⟨28, _⟩ => ⟨S11x1792x2880, .i32⟩
  | .hbm, ⟨29, _⟩ => ⟨S11x1792x2880, .i32⟩
  | .hbm, ⟨30, _⟩ => ⟨S11x1792x2880, .i32⟩
  | .hbm, ⟨31, _⟩ => ⟨S11x1792x2880, .bf16⟩
  | .hbm, ⟨32, _⟩ => ⟨S11x896x2880, .i32⟩
  | .hbm, ⟨33, _⟩ => ⟨S_, .i32⟩
  | .hbm, ⟨34, _⟩ => ⟨S11x896x2880, .i32⟩
  | .hbm, ⟨35, _⟩ => ⟨S11x896x2880, .i32⟩
  | .hbm, ⟨36, _⟩ => ⟨S_, .i32⟩
  | .hbm, ⟨37, _⟩ => ⟨S11x896x2880, .i32⟩
  | .hbm, ⟨38, _⟩ => ⟨S11x896x2880, .i32⟩
  | .hbm, ⟨39, _⟩ => ⟨S_, .i32⟩
  | .hbm, ⟨40, _⟩ => ⟨S11x896x2880, .i32⟩
  | .hbm, ⟨41, _⟩ => ⟨S11x896x2880, .i32⟩
  | .hbm, ⟨42, _⟩ => ⟨S11x896x1x2880, .i32⟩
  | .hbm, ⟨43, _⟩ => ⟨S11x896x1x2880, .i32⟩
  | .hbm, ⟨44, _⟩ => ⟨S11x896x2x2880, .i32⟩
  | .hbm, ⟨45, _⟩ => ⟨S11x1792x2880, .i32⟩
  | .hbm, ⟨46, _⟩ => ⟨S_, .i32⟩
  | .hbm, ⟨47, _⟩ => ⟨S11x896x2880, .i32⟩
  | .hbm, ⟨48, _⟩ => ⟨S11x896x2880, .i32⟩
  | .hbm, ⟨49, _⟩ => ⟨S_, .i32⟩
  | .hbm, ⟨50, _⟩ => ⟨S11x896x2880, .i32⟩
  | .hbm, ⟨51, _⟩ => ⟨S11x896x2880, .i32⟩
  | .hbm, ⟨52, _⟩ => ⟨S_, .i32⟩
  | .hbm, ⟨53, _⟩ => ⟨S11x896x2880, .i32⟩
  | .hbm, ⟨54, _⟩ => ⟨S11x896x2880, .i32⟩
  | .hbm, ⟨55, _⟩ => ⟨S_, .i32⟩
  | .hbm, ⟨56, _⟩ => ⟨S11x896x2880, .i32⟩
  | .hbm, ⟨57, _⟩ => ⟨S11x896x2880, .i32⟩
  | .hbm, ⟨58, _⟩ => ⟨S11x896x1x2880, .i32⟩
  | .hbm, ⟨59, _⟩ => ⟨S11x896x1x2880, .i32⟩
  | .hbm, ⟨60, _⟩ => ⟨S11x896x2x2880, .i32⟩
  | .hbm, ⟨61, _⟩ => ⟨S11x1792x2880, .i32⟩
  | .hbm, ⟨62, _⟩ => ⟨S4, .i32⟩
  | .hbm, ⟨63, _⟩ => ⟨S1x1x1x4x1, .i32⟩
  | .hbm, ⟨64, _⟩ => ⟨S11x56x32x1x2880, .i32⟩
  | .hbm, ⟨65, _⟩ => ⟨S11x56x32x4x2880, .i32⟩
  | .hbm, ⟨66, _⟩ => ⟨S11x56x32x4x2880, .i32⟩
  | .hbm, ⟨67, _⟩ => ⟨S11x56x32x4x2880, .i1⟩
  | .hbm, ⟨68, _⟩ => ⟨S11x56x32x1x2880, .bf16⟩
  | .hbm, ⟨69, _⟩ => ⟨S_, .bf16⟩
  | .hbm, ⟨70, _⟩ => ⟨S11x56x32x4x2880, .bf16⟩
  | .hbm, ⟨71, _⟩ => ⟨S11x56x32x4x2880, .bf16⟩
  | .hbm, ⟨72, _⟩ => ⟨S11x56x32x4x2880, .bf16⟩
  | .hbm, ⟨73, _⟩ => ⟨S11x56x32x1x2880, .i32⟩
  | .hbm, ⟨74, _⟩ => ⟨S11x56x32x4x2880, .i32⟩
  | .hbm, ⟨75, _⟩ => ⟨S11x56x32x4x2880, .i32⟩
  | .hbm, ⟨76, _⟩ => ⟨S11x56x32x4x2880, .i1⟩
  | .hbm, ⟨77, _⟩ => ⟨S11x56x32x1x2880, .bf16⟩
  | .hbm, ⟨78, _⟩ => ⟨S_, .bf16⟩
  | .hbm, ⟨79, _⟩ => ⟨S11x56x32x4x2880, .bf16⟩
  | .hbm, ⟨80, _⟩ => ⟨S11x56x32x4x2880, .bf16⟩
  | .hbm, ⟨81, _⟩ => ⟨S11x56x32x4x2880, .bf16⟩
  | .hbm, ⟨82, _⟩ => ⟨S11x56x32x4x2880, .bf16⟩
  | .hbm, ⟨83, _⟩ => ⟨S11x56x1x1x2880, .bf16⟩
  | .hbm, ⟨84, _⟩ => ⟨S11x56x32x4x2880, .bf16⟩
  | .hbm, ⟨85, _⟩ => ⟨S11x56x32x4x2880, .bf16⟩
  | .hbm, ⟨86, _⟩ => ⟨S11x7168x2880, .bf16⟩
  | .hbm, ⟨87, _⟩ => ⟨S256, .i32⟩
  | .hbm, ⟨88, _⟩ => ⟨S256x1, .i32⟩
  | .hbm, ⟨89, _⟩ => ⟨S11, .i32⟩
  | .hbm, ⟨90, _⟩ => ⟨S1x11, .i32⟩
  | .hbm, ⟨91, _⟩ => ⟨S256x11, .i32⟩
  | .hbm, ⟨92, _⟩ => ⟨S256x11, .i32⟩
  | .hbm, ⟨93, _⟩ => ⟨S256x11, .i1⟩
  | .hbm, ⟨94, _⟩ => ⟨S11, .i32⟩
  | .hbm, ⟨95, _⟩ => ⟨S1x11, .i32⟩
  | .hbm, ⟨96, _⟩ => ⟨S256x11, .i32⟩
  | .hbm, ⟨97, _⟩ => ⟨S256x11, .i32⟩
  | .hbm, ⟨98, _⟩ => ⟨S256x11, .i1⟩
  | .hbm, ⟨99, _⟩ => ⟨S256x11, .i1⟩
  | .hbm, ⟨100, _⟩ => ⟨S256x11x2880, .f32⟩
  | .hbm, ⟨101, _⟩ => ⟨S256x11x1, .i1⟩
  | .hbm, ⟨102, _⟩ => ⟨S_, .f32⟩
  | .hbm, ⟨103, _⟩ => ⟨S_, .f32⟩
  | .hbm, ⟨104, _⟩ => ⟨S256x11x2880, .i1⟩
  | .hbm, ⟨105, _⟩ => ⟨S256x11x2880, .f32⟩
  | .hbm, ⟨106, _⟩ => ⟨S256x11x2880, .f32⟩
  | .hbm, ⟨107, _⟩ => ⟨S_, .f32⟩
  | .hbm, ⟨108, _⟩ => ⟨S256x2880, .f32⟩
  | .hbm, ⟨109, _⟩ => ⟨S256x2880, .f32⟩
  | .hbm, ⟨110, _⟩ => ⟨S256x2880, .bf16⟩
  | .local _ .vmem, ⟨0, _⟩ => ⟨S2x128x7168, .bf16⟩
  | .local _ .vmem, ⟨1, _⟩ => ⟨S7168x2880, .fp8e4m3⟩
  | .local _ .vmem, ⟨2, _⟩ => ⟨S2880, .f32⟩
  | .local _ .vmem, ⟨3, _⟩ => ⟨S256x2880, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_call3_v0 : Ref sig .tc := ⟨.hbm, 79, rfl⟩
abbrev main_call3_v1 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KSetup.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-! What every run of `Kernel` is stated over: the memory at the pallas_call, the prefetched offsets, the staging
    memrefs of its seven windows, the blocks the pipeline stages, and the scratch buffers. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Core `c`'s buffers when the pallas_call is entered: as launched. -/
abbrev V (c : Dev nD) (b : Ref sig .tc) : Buf (Elt F) ((c : Thread nD τ).loc b) := m ((c : Thread nD τ).loc b)

set_option maxHeartbeats 800000 in
/-- The program up to the pallas_call: nothing but the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched offsets as the pallas_call finds them. -/
def tbl : pre0.Contents (Elt F) := fun j => V m (0 : Dev nD) (pre0.ref j)
/-- There is one device, so every core sees the same offsets. -/
theorem V_pre (c : Dev nD) (j : Fin 1) : V m c (pre0.ref j) = tbl m j := by
  obtain rfl : c = 0 := Subsingleton.elim _ _; rfl
/-- No index map reads the offsets, so the pipeline's side condition on them is trivial. -/
theorem ok : ok0 (F := F) (tbl m) := trivial
/-- The offsets as admissible contents, and the pipeline at them. -/
abbrev adm : (pcfg0 (F := F)).Adm := ⟨tbl m, ok m⟩
abbrev cfgM : Pipeline.Cfg sig Λ₀ := cfg0 (adm m)

/-- The offsets as the body is handed them: the whole SMEM buffer. -/
abbrev tbM : Memref sig .tc .smem S12 .i32 := Memref.whole main_arg6
abbrev htbM : tbM.IsWhole := Memref.isWhole_whole _
/-- The offsets' buffer held at half the share, read-only: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half of the offsets the pallas_call hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The body's third condition: the tenant at the point has rows. -/
abbrev Live (i : grid0.Coords) (v1 : BitVec 32) (v4 : BitVec 32) : Prop := (Scalar.cmpi .ne (Scalar.extui (Scalar.cmpi .sgt v4 v1)) 0#32) = 1#1
/-- The tenant's first row, as the body reads it, -/
abbrev off1 (c : Dev nD) (i : grid0.Coords) (xt : TbBuf (F := F) c tbM) : BitVec 32 :=
  tbM.view.readAt (Elt F) (Rect.unit (s := S12) (k0_off1 i) S1.size (k0_off1_inb i)).toLoadRect xt (Shape.Idx.first (numel1_S1.symm ▸ Nat.one_pos))
/-- and the row past its last. -/
abbrev off2 (c : Dev nD) (i : grid0.Coords) (xt : TbBuf (F := F) c tbM) : BitVec 32 :=
  tbM.view.readAt (Elt F) (Rect.unit (s := S12) (k0_off2 i) S1.size (k0_off2_inb i)).toLoadRect xt (Shape.Idx.first (numel1_S1.symm ▸ Nat.one_pos))

/-- Window `w`'s block at point `t`: the part of its array the pipeline stages there. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Window `w`'s staging buffer once its block is in, `d` beyond the array's edge. -/
abbrev staged (c : Dev nD) (w : Fin (cfgM m).W) (t : Fin (cfgM m).N) (d : ((cfgM m).win w).block.Idx → Elt F ((cfgM m).win w).elt) :
    ((cfgM m).win w).block.Idx → Elt F ((cfgM m).win w).elt :=
  ((cfgM m).win w).fill ((cfgM m).grid.coords t) d (iblk m c w t)

/-- The grid: six column blocks of eleven tenants. -/
theorem N66 : (cfgM m).N = 66 := N_0

/-- Each window's staging memref at point `t`, as the pipeline passes it, and its wholeness. -/
abbrev ms0 (t : Fin (cfgM m).N) : Memref sig .tc .vmem S2x128x7168 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S7168x512 .fp8e4m3 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S512 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1792x512 .i8 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x896x512 .i8 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x56x512 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S256x512 .bf16 := spec0_6.stage ((cfgM m).slots t 6)
abbrev hs6 (t : Fin (cfgM m).N) : (ms6 m t).IsWhole := hstage0_6 (((cfgM m).slots t 6).cast nbuf0_6)
/-- The kernel's own scratch buffers: the permuted activations, the accumulator, the duplicated scales. -/
abbrev scM0 : Memref sig .tc .vmem S256x7168 .bf16 := Memref.whole cc0_scratch0
abbrev scM1 : Memref sig .tc .vmem S256x512 .f32 := Memref.whole cc0_scratch1
abbrev scM2 : Memref sig .tc .vmem S56x512 .i32 := Memref.whole cc0_scratch2

/-- The kernel body at point `t`, on what the pipeline calls it with. -/
abbrev bodyAt (t : Fin (cfgM m).N) : Prog (TpuEff nD τ sig (Elt F) Λ₀ .tc) PUnit :=
  cc0_base_plus_delta (grid0.coords t) tbM htbM (ms0 m t) (hs0 m t) (ms1 m t) (hs1 m t) (ms2 m t) (hs2 m t) (ms3 m t) (hs3 m t)
    (ms4 m t) (hs4 m t) (ms5 m t) (hs5 m t) (ms6 m t) (hs6 m t) scM0 (Memref.isWhole_whole _) scM1 (Memref.isWhole_whole _) scM2 (Memref.isWhole_whole _)

/-- The body table's row at point `t` is that body. -/
theorem defs₀_row (t : Fin (cfgM m).N) :
    defs₀ (F := F) .tc (cfgM m).body ((cfgM m).bodyArgs t ((cfgM m).slots t)) = bodyAt m t := by
  unfold defs₀; rw [Defs.onTc_tc]

/-- The scratch buffers and the generator register, each scratch owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- An input window whose blocks the body leaves in place holds its block at every point, fetched there or not. -/
theorem before_in {c : Dev nD} (dat : Dat τ (Elt F) Unit ℕ (UR sig nD τ) ℕ (cfgM m) c) (w : Fin (cfgM m).W)
    (hw : ((cfgM m).win w).isOut = false) (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hA : dat.A w = V m c (Pipeline.arrRef spec0 w))
    (d0 : ∀ t, ((cfgM m).win w).block.Idx → Elt F ((cfgM m).win w).elt)
    (hafter : ∀ t, dat.after w t = staged m c w t (d0 t)) (t : Fin (cfgM m).N) (d) :
    dat.before w t d = staged m c w t d :=
  (dat.before_in_eq_fetched w hw hlive hclip
    (fun t => by rw [hafter, Pipeline.Window.cut_fill]; unfold Dat.blockOf iblk; rw [hA]) t d).trans
    (by unfold Dat.fetched Dat.blockOf staged iblk; rw [hA])

/-- A window cut by the array's edge is cut alike wherever its block index is the same. -/
theorem clip_of {w : Fin (cfgM m).W} (t t' : Fin (cfgM m).N) (h : ((cfgM m).win w).index t = ((cfgM m).win w).index t')
    (hc : ∀ t, ((cfgM m).win w).clip ((cfgM m).grid.coords t) = fun a => Pipeline.Clip.of (((cfgM m).win w).index t a) (((cfgM m).win w).block.size a) (((cfgM m).win w).shape.size a)) :
    ((cfgM m).win w).clip ((cfgM m).grid.coords t) = ((cfgM m).win w).clip ((cfgM m).grid.coords t') := by
  rw [hc, hc, h]
theorem clip1 (t t' : Fin (cfgM m).N) (h : ((cfgM m).win 1).index t = ((cfgM m).win 1).index t') :
    ((cfgM m).win 1).clip ((cfgM m).grid.coords t) = ((cfgM m).win 1).clip ((cfgM m).grid.coords t') := clip_of m t t' h fun _ => rfl
theorem clip2 (t t' : Fin (cfgM m).N) (h : ((cfgM m).win 2).index t = ((cfgM m).win 2).index t') :
    ((cfgM m).win 2).clip ((cfgM m).grid.coords t) = ((cfgM m).win 2).clip ((cfgM m).grid.coords t') := clip_of m t t' h fun _ => rfl
theorem clip3 (t t' : Fin (cfgM m).N) (h : ((cfgM m).win 3).index t = ((cfgM m).win 3).index t') :
    ((cfgM m).win 3).clip ((cfgM m).grid.coords t) = ((cfgM m).win 3).clip ((cfgM m).grid.coords t') := clip_of m t t' h fun _ => rfl
theorem clip4 (t t' : Fin (cfgM m).N) (h : ((cfgM m).win 4).index t = ((cfgM m).win 4).index t') :
    ((cfgM m).win 4).clip ((cfgM m).grid.coords t) = ((cfgM m).win 4).clip ((cfgM m).grid.coords t') := clip_of m t t' h fun _ => rfl
theorem clip5 (t t' : Fin (cfgM m).N) (h : ((cfgM m).win 5).index t = ((cfgM m).win 5).index t') :
    ((cfgM m).win 5).clip ((cfgM m).grid.coords t) = ((cfgM m).win 5).clip ((cfgM m).grid.coords t') := clip_of m t t' h fun _ => rfl

/-- A run from `P` to `Q` used inside a larger goal. -/
theorem wp_use {E : Set ℕ} {c : Dev nD} {P Q : sProp 𝕄} {K : PUnit → sProp 𝕄} {p : Prog (TpuEff nD τ sig (Elt F) Λ₀ .tc) PUnit}
    (h : P ⊢ wp frame (wpE (defs₀ (F := F)) Variants.none c none) E p (fun _ => Q)) :
    iprop(P ∗ (Q -∗ K ⟨⟩)) ⊢ wp frame (wpE (defs₀ (F := F)) Variants.none c none) E p K := by
  have h1 : iprop(wp frame (wpE (defs₀ (F := F)) Variants.none c none) E p (fun _ => Q) ∗ (Q -∗ K ⟨⟩))
      ⊢ wp frame (wpE (defs₀ (F := F)) Variants.none c none) E p (fun _ => iprop(Q ∗ (Q -∗ K ⟨⟩))) := wp_frame_r _ _ _
  have h2 : wp frame (wpE (defs₀ (F := F)) Variants.none c none) E p (fun _ => iprop(Q ∗ (Q -∗ K ⟨⟩)))
      ⊢ wp frame (wpE (defs₀ (F := F)) Variants.none c none) E p K := wp_mono _ _ _ fun a => by
    iintro ⟨HQ, Hk⟩
    iapply Hk
    iexact HQ
  refine BIBase.Entails.trans ?_ (BIBase.Entails.trans h1 h2)
  exact BI.sep_mono h (Idealize.SL.BI.Entails.refl _)

end Cert.Kernel.Hand

end
-- ==== Proof.KBody.lean ====
module

public import proofs.«01_k».proof.Proof.KSetup

@[expose] public section

set_option maxRecDepth 16384

/-! The kernel body of `Kernel` runs, from any contents of its buffers, and leaves its inputs as they were. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [BitOps F]

local notation "𝕄" => MT nD τ sig Unit (Elt F) ℕ (UR sig nD τ) ℕ

/-- What the body holds between its four conditionals: the inputs at their contents, the output block and the three
    scratch buffers at some contents, and the offsets. -/
def Held (c : Dev nD) (arg3 : Memref sig .tc .vmem S2x128x7168 .bf16) (arg4 : Memref sig .tc .vmem S7168x512 .fp8e4m3) (arg5 : Memref sig .tc .vmem S512 .f32) (arg6 : Memref sig .tc .vmem S1x1792x512 .i8) (arg7 : Memref sig .tc .vmem S1x896x512 .i8) (arg8 : Memref sig .tc .vmem S1x56x512 .bf16) (arg9 : Memref sig .tc .vmem S256x512 .bf16) (arg10 : Memref sig .tc .vmem S256x7168 .bf16) (arg11 : Memref sig .tc .vmem S256x512 .f32) (arg12 : Memref sig .tc .vmem S56x512 .i32)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt c tbM xt)

set_option maxHeartbeats 4000000 in
/-- The body runs from `Held` to `Held`: each of its four conditionals does, whichever way it goes. -/
theorem body_held (c : Dev nD) (i : grid0.Coords) (arg3 : Memref sig .tc .vmem S2x128x7168 .bf16) (harg3 : arg3.IsWhole) (arg4 : Memref sig .tc .vmem S7168x512 .fp8e4m3) (harg4 : arg4.IsWhole) (arg5 : Memref sig .tc .vmem S512 .f32) (harg5 : arg5.IsWhole) (arg6 : Memref sig .tc .vmem S1x1792x512 .i8) (harg6 : arg6.IsWhole) (arg7 : Memref sig .tc .vmem S1x896x512 .i8) (harg7 : arg7.IsWhole) (arg8 : Memref sig .tc .vmem S1x56x512 .bf16) (harg8 : arg8.IsWhole) (arg9 : Memref sig .tc .vmem S256x512 .bf16) (harg9 : arg9.IsWhole) (arg10 : Memref sig .tc .vmem S256x7168 .bf16) (harg10 : arg10.IsWhole) (arg11 : Memref sig .tc .vmem S256x512 .f32) (harg11 : arg11.IsWhole) (arg12 : Memref sig .tc .vmem S56x512 .i32) (harg12 : arg12.IsWhole)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) (E : Set ℕ) :
    Held c arg3 arg4 arg5 arg6 arg7 arg8 arg9 arg10 arg11 arg12 x0 x1 x2 x3 x4 x5 xt
      ⊢ wp frame (wpE (defs₀ (F := F)) Variants.none c none) E (cc0_base_plus_delta i tbM htbM arg3 harg3 arg4 harg4 arg5 harg5 arg6 harg6 arg7 harg7 arg8 harg8 arg9 harg9 arg10 harg10 arg11 harg11 arg12 harg12)
        (fun _ => Held c arg3 arg4 arg5 arg6 arg7 arg8 arg9 arg10 arg11 arg12 x0 x1 x2 x3 x4 x5 xt) := by
  simp only [cc0_base_plus_delta_eq_skeleton]; unfold cc0_base_plus_delta_skel
  simp only [k0_part1_eq_skeleton, k0_part2_eq_skeleton, k0_part3_eq_skeleton, k0_part4_eq_skeleton, k0_part5_eq_skeleton, k0_part6_eq_skeleton, k0_part7_eq_skeleton]
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0⟩
  by_cases hc2 : Live i (off1 (F := F) c i xt) (off2 (F := F) c i xt)
  · sl_exec (disch := sl_exact hc2)
    sl_step
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0
  · sl_exec (disch := sl_exact hc2)
    sl_step
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.Kernel.Hand

end
-- ==== Proof.KFrame.lean ====
module

public import proofs.«01_k».proof.Proof.KBody

@[expose] public section

set_option maxRecDepth 16384

/-! The frame of `Kernel`: it runs, every argument array ends unchanged, and every semaphore counter ends at zero. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output window (6), of whose contents this frame says nothing. -/
def forgets : Fin 7 → Bool := fun w => w.val == 6

/-- The proof data of the pipeline: each input's buffer at its block after the body, the scratch buffers and the
    offsets held throughout, nothing owed. -/
def dats (_ : Fin 1) (c : Dev nD) : Dat τ (Elt F) Unit ℕ (UR sig nD τ) ℕ (cfgM m) c where
  A w := V m c (Pipeline.arrRef spec0 w)
  after w t := staged m c w t (Pipeline.Dat.unnamed (cfg := cfgM m) w t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_eq (c : Dev nD) (w : Fin (cfgM m).W) (t : Fin (cfgM m).N) :
    (dats m 0 c).after w t = staged m c w t (Pipeline.Dat.unnamed (cfg := cfgM m) w t) := by
  dsimp only [dats]

/-- Each input's current staging buffer holds its block when the body runs. -/
theorem before0 (c : Dev nD) (t : Fin (cfgM m).N) (d) : (dats m 0 c).before 0 t d = staged m c 0 t d :=
  before_in m (dats m 0 c) 0 rfl (fun _ => rfl) (fun _ _ _ => rfl) (A_eq m c 0) _ (after_eq m c 0) t d
theorem before1 (c : Dev nD) (t : Fin (cfgM m).N) (d) : (dats m 0 c).before 1 t d = staged m c 1 t d :=
  before_in m (dats m 0 c) 1 rfl (fun _ => rfl) (clip1 m) (A_eq m c 1) _ (after_eq m c 1) t d
theorem before2 (c : Dev nD) (t : Fin (cfgM m).N) (d) : (dats m 0 c).before 2 t d = staged m c 2 t d :=
  before_in m (dats m 0 c) 2 rfl (fun _ => rfl) (clip2 m) (A_eq m c 2) _ (after_eq m c 2) t d
theorem before3 (c : Dev nD) (t : Fin (cfgM m).N) (d) : (dats m 0 c).before 3 t d = staged m c 3 t d :=
  before_in m (dats m 0 c) 3 rfl (fun _ => rfl) (clip3 m) (A_eq m c 3) _ (after_eq m c 3) t d
theorem before4 (c : Dev nD) (t : Fin (cfgM m).N) (d) : (dats m 0 c).before 4 t d = staged m c 4 t d :=
  before_in m (dats m 0 c) 4 rfl (fun _ => rfl) (clip4 m) (A_eq m c 4) _ (after_eq m c 4) t d
theorem before5 (c : Dev nD) (t : Fin (cfgM m).N) (d) : (dats m 0 c).before 5 t d = staged m c 5 t d :=
  before_in m (dats m 0 c) 5 rfl (fun _ => rfl) (clip5 m) (A_eq m c 5) _ (after_eq m c 5) t d

/-- What the body is called with at point `t`, window by window. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare d))

/-- and what it returns: a window cut by the array's edge is stated on its inside only. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ (∃ d, owns (c : Thread nD τ) (ms1 m t) fullShare (((cfgM m).win 1).fill ((cfgM m).grid.coords t) d (((cfgM m).win 1).cut ((cfgM m).grid.coords t) ((dats m 0 c).after 1 t))))
    ∗ (∃ d, owns (c : Thread nD τ) (ms2 m t) fullShare (((cfgM m).win 2).fill ((cfgM m).grid.coords t) d (((cfgM m).win 2).cut ((cfgM m).grid.coords t) ((dats m 0 c).after 2 t))))
    ∗ (∃ d, owns (c : Thread nD τ) (ms3 m t) fullShare (((cfgM m).win 3).fill ((cfgM m).grid.coords t) d (((cfgM m).win 3).cut ((cfgM m).grid.coords t) ((dats m 0 c).after 3 t))))
    ∗ (∃ d, owns (c : Thread nD τ) (ms4 m t) fullShare (((cfgM m).win 4).fill ((cfgM m).grid.coords t) d (((cfgM m).win 4).cut ((cfgM m).grid.coords t) ((dats m 0 c).after 4 t))))
    ∗ (∃ d, owns (c : Thread nD τ) (ms5 m t) fullShare (((cfgM m).win 5).fill ((cfgM m).grid.coords t) d (((cfgM m).win 5).cut ((cfgM m).grid.coords t) ((dats m 0 c).after 5 t))))
    ∗ (∃ d, owns (c : Thread nD τ) (ms6 m t) fullShare d))

set_option maxHeartbeats 4000000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5, after_eq, Pipeline.Window.cut_fill]
  rw [show (dats m 0 c).owesAt () t.succ = (dats m 0 c).owesAt () t.castSucc from rfl]
  rw [show (dats m 0 c).Φ t.succ = iprop(Pipeline.ΦA spec0 c ∗ Pipeline.ΦT pre0 (tbl m) c) from rfl,
    show (dats m 0 c).Φ t.castSucc = iprop(Pipeline.ΦA spec0 c ∗ Pipeline.ΦT pre0 (tbl m) c) from rfl, PhiT_eq, PhiA_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, H6⟩
  have hb := body_held c (grid0.coords t) (ms0 m t) (hs0 m t) (ms1 m t) (hs1 m t) (ms2 m t) (hs2 m t) (ms3 m t) (hs3 m t)
    (ms4 m t) (hs4 m t) (ms5 m t) (hs5 m t) (ms6 m t) (hs6 m t) scM0 (Memref.isWhole_whole _) scM1 (Memref.isWhole_whole _) scM2 (Memref.isWhole_whole _)
    (staged m c 0 t d0) (staged m c 1 t d1) (staged m c 2 t d2) (staged m c 3 t d3) (staged m c 4 t d4) (staged m c 5 t d5) (tbl m 0) Set.univ
  unfold Held at hb
  iapply (wp_use hb)
  isplitl [H0 H1 H2 H3 H4 H5 H6 HS0 HS1 HS2 HT0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HT0
  iintro ⟨H0, H1, H2, H3, H4, H5, H6, HS0, HS1, HS2, HT0⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iexact H6

/-- The pipeline's body obligation, at every point. -/
theorem body_obligation (c : Dev nD) : BodyObligationLoose (dats (F := F) m 0 c) (defs₀ (F := F)) Variants.none () Set.univ forgets := fun t => by
  rw [bigSep_W0, bigSep_W0, defs₀_row m]
  exact triple_restated (sound_body m c t) rfl .rfl fun _ => .rfl

/-- The launch hands the region its invariant, -/
theorem hin (c : Dev nD) : iprop(Pipeline.ΦA spec0 c ∗ Pipeline.ΦT pre0 (tbl m) c) ⊢ (dats m 0 c).Φ 0 := .rfl

/-- and takes the scratch buffers back after the last point. -/
theorem hout (c : Dev nD) : (dats m 0 c).Φ (Fin.last (cfgM m).N) ⊢ Pipeline.ΦA spec0 c := by
  rw [show (dats m 0 c).Φ (Fin.last (cfgM m).N) = iprop(Pipeline.ΦA spec0 c ∗ Pipeline.ΦT pre0 (tbl m) c) from rfl]
  iintro ⟨H, -⟩
  iexact H

set_option backward.isDefEq.respectTransparency.types false in
/-- The whole run: the arrays as the pipeline leaves them, every counter at zero. -/
theorem run_main : θ_run defs (onTc (τ := τ) (main (F := F))) (s₀ m ρ) (fun r => (Pipeline.RDat.FramePost ((Pipeline.pin pcfgs fun _ => adm m) 0) (fun c => (dats m 0 c).toRForget forgets) (V m)) r ∧ r.2.sem = fun _ => 0) :=
  Pipeline.θ_run_frameP_track_forget (Q' := _) pcfgs (fun _ => adm m) (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hpf := V_pre m) (hin := hin m) (hout := hout m)

/-- The frame at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (h.1 c).2 main_arg6 (by decide : main_arg6 ∈ Pipeline.restRefs sig spec0)⟩, h.2⟩) (run_main m ρ)

end Cert.Kernel.Hand

end
-- ==== Proof.ISetup.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-! What every run of `KernelIdeal` is stated over: the memory at the pallas_call, the prefetched offsets, the staging
    memrefs of its seven windows, the blocks the pipeline stages, and the scratch buffers. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the pallas_call is entered: as launched. -/
abbrev V (c : Dev nD) (b : Ref sig .tc) : Buf (Elt F) ((c : Thread nD τ).loc b) := m ((c : Thread nD τ).loc b)

set_option maxHeartbeats 800000 in
/-- The program up to the pallas_call: nothing but the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched offsets as the pallas_call finds them. -/
def tbl : pre0.Contents (Elt F) := fun j => V m (0 : Dev nD) (pre0.ref j)
/-- There is one device, so every core sees the same offsets. -/
theorem V_pre (c : Dev nD) (j : Fin 1) : V m c (pre0.ref j) = tbl m j := by
  obtain rfl : c = 0 := Subsingleton.elim _ _; rfl
/-- No index map reads the offsets, so the pipeline's side condition on them is trivial. -/
theorem ok : ok0 (F := F) (tbl m) := trivial
/-- The offsets as admissible contents, and the pipeline at them. -/
abbrev adm : (pcfg0 (F := F)).Adm := ⟨tbl m, ok m⟩
abbrev cfgM : Pipeline.Cfg sig Λ₀ := cfg0 (adm m)

/-- The offsets as the body is handed them: the whole SMEM buffer. -/
abbrev tbM : Memref sig .tc .smem S12 .i32 := Memref.whole main_arg6
abbrev htbM : tbM.IsWhole := Memref.isWhole_whole _
/-- The offsets' buffer held at half the share, read-only: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half of the offsets the pallas_call hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The body's third condition: the tenant at the point has rows. -/
abbrev Live (i : grid0.Coords) (v1 : BitVec 32) (v4 : BitVec 32) : Prop := (Scalar.cmpi .ne (Scalar.extui (Scalar.cmpi .sgt v4 v1)) 0#32) = 1#1
/-- The tenant's first row, as the body reads it, -/
abbrev off1 (c : Dev nD) (i : grid0.Coords) (xt : TbBuf (F := F) c tbM) : BitVec 32 :=
  tbM.view.readAt (Elt F) (Rect.unit (s := S12) (k0_off1 i) S1.size (k0_off1_inb i)).toLoadRect xt (Shape.Idx.first (numel1_S1.symm ▸ Nat.one_pos))
/-- and the row past its last. -/
abbrev off2 (c : Dev nD) (i : grid0.Coords) (xt : TbBuf (F := F) c tbM) : BitVec 32 :=
  tbM.view.readAt (Elt F) (Rect.unit (s := S12) (k0_off2 i) S1.size (k0_off2_inb i)).toLoadRect xt (Shape.Idx.first (numel1_S1.symm ▸ Nat.one_pos))

/-- Window `w`'s block at point `t`: the part of its array the pipeline stages there. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Window `w`'s staging buffer once its block is in, `d` beyond the array's edge. -/
abbrev staged (c : Dev nD) (w : Fin (cfgM m).W) (t : Fin (cfgM m).N) (d : ((cfgM m).win w).block.Idx → Elt F ((cfgM m).win w).elt) :
    ((cfgM m).win w).block.Idx → Elt F ((cfgM m).win w).elt :=
  ((cfgM m).win w).fill ((cfgM m).grid.coords t) d (iblk m c w t)

/-- The grid: six column blocks of eleven tenants. -/
theorem N66 : (cfgM m).N = 66 := N_0

/-- Each window's staging memref at point `t`, as the pipeline passes it, and its wholeness. -/
abbrev ms0 (t : Fin (cfgM m).N) : Memref sig .tc .vmem S2x128x7168 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S7168x512 .fp8e4m3 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S512 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1792x512 .i8 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x896x512 .i8 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x56x512 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S256x512 .bf16 := spec0_6.stage ((cfgM m).slots t 6)
abbrev hs6 (t : Fin (cfgM m).N) : (ms6 m t).IsWhole := hstage0_6 (((cfgM m).slots t 6).cast nbuf0_6)
/-- The kernel's own scratch buffers: the permuted activations, the accumulator, the duplicated scales. -/
abbrev scM0 : Memref sig .tc .vmem S256x7168 .bf16 := Memref.whole cc0_scratch0
abbrev scM1 : Memref sig .tc .vmem S256x512 .f32 := Memref.whole cc0_scratch1
abbrev scM2 : Memref sig .tc .vmem S56x2x512 .bf16 := Memref.whole cc0_scratch2

/-- The kernel body at point `t`, on what the pipeline calls it with. -/
abbrev bodyAt (t : Fin (cfgM m).N) : Prog (TpuEff nD τ sig (Elt F) Λ₀ .tc) PUnit :=
  cc0_base_plus_delta (grid0.coords t) tbM htbM (ms0 m t) (hs0 m t) (ms1 m t) (hs1 m t) (ms2 m t) (hs2 m t) (ms3 m t) (hs3 m t)
    (ms4 m t) (hs4 m t) (ms5 m t) (hs5 m t) (ms6 m t) (hs6 m t) scM0 (Memref.isWhole_whole _) scM1 (Memref.isWhole_whole _) scM2 (Memref.isWhole_whole _)

/-- The body table's row at point `t` is that body. -/
theorem defs₀_row (t : Fin (cfgM m).N) :
    defs₀ (F := F) .tc (cfgM m).body ((cfgM m).bodyArgs t ((cfgM m).slots t)) = bodyAt m t := by
  unfold defs₀; rw [Defs.onTc_tc]

/-- The scratch buffers and the generator register, each scratch owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- An input window whose blocks the body leaves in place holds its block at every point, fetched there or not. -/
theorem before_in {c : Dev nD} (dat : Dat τ (Elt F) Unit ℕ (UR sig nD τ) ℕ (cfgM m) c) (w : Fin (cfgM m).W)
    (hw : ((cfgM m).win w).isOut = false) (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hA : dat.A w = V m c (Pipeline.arrRef spec0 w))
    (d0 : ∀ t, ((cfgM m).win w).block.Idx → Elt F ((cfgM m).win w).elt)
    (hafter : ∀ t, dat.after w t = staged m c w t (d0 t)) (t : Fin (cfgM m).N) (d) :
    dat.before w t d = staged m c w t d :=
  (dat.before_in_eq_fetched w hw hlive hclip
    (fun t => by rw [hafter, Pipeline.Window.cut_fill]; unfold Dat.blockOf iblk; rw [hA]) t d).trans
    (by unfold Dat.fetched Dat.blockOf staged iblk; rw [hA])

/-- A window cut by the array's edge is cut alike wherever its block index is the same. -/
theorem clip_of {w : Fin (cfgM m).W} (t t' : Fin (cfgM m).N) (h : ((cfgM m).win w).index t = ((cfgM m).win w).index t')
    (hc : ∀ t, ((cfgM m).win w).clip ((cfgM m).grid.coords t) = fun a => Pipeline.Clip.of (((cfgM m).win w).index t a) (((cfgM m).win w).block.size a) (((cfgM m).win w).shape.size a)) :
    ((cfgM m).win w).clip ((cfgM m).grid.coords t) = ((cfgM m).win w).clip ((cfgM m).grid.coords t') := by
  rw [hc, hc, h]
theorem clip1 (t t' : Fin (cfgM m).N) (h : ((cfgM m).win 1).index t = ((cfgM m).win 1).index t') :
    ((cfgM m).win 1).clip ((cfgM m).grid.coords t) = ((cfgM m).win 1).clip ((cfgM m).grid.coords t') := clip_of m t t' h fun _ => rfl
theorem clip2 (t t' : Fin (cfgM m).N) (h : ((cfgM m).win 2).index t = ((cfgM m).win 2).index t') :
    ((cfgM m).win 2).clip ((cfgM m).grid.coords t) = ((cfgM m).win 2).clip ((cfgM m).grid.coords t') := clip_of m t t' h fun _ => rfl
theorem clip3 (t t' : Fin (cfgM m).N) (h : ((cfgM m).win 3).index t = ((cfgM m).win 3).index t') :
    ((cfgM m).win 3).clip ((cfgM m).grid.coords t) = ((cfgM m).win 3).clip ((cfgM m).grid.coords t') := clip_of m t t' h fun _ => rfl
theorem clip4 (t t' : Fin (cfgM m).N) (h : ((cfgM m).win 4).index t = ((cfgM m).win 4).index t') :
    ((cfgM m).win 4).clip ((cfgM m).grid.coords t) = ((cfgM m).win 4).clip ((cfgM m).grid.coords t') := clip_of m t t' h fun _ => rfl
theorem clip5 (t t' : Fin (cfgM m).N) (h : ((cfgM m).win 5).index t = ((cfgM m).win 5).index t') :
    ((cfgM m).win 5).clip ((cfgM m).grid.coords t) = ((cfgM m).win 5).clip ((cfgM m).grid.coords t') := clip_of m t t' h fun _ => rfl

/-- A run from `P` to `Q` used inside a larger goal. -/
theorem wp_use {E : Set ℕ} {c : Dev nD} {P Q : sProp 𝕄} {K : PUnit → sProp 𝕄} {p : Prog (TpuEff nD τ sig (Elt F) Λ₀ .tc) PUnit}
    (h : P ⊢ wp frame (wpE (defs₀ (F := F)) Variants.none c none) E p (fun _ => Q)) :
    iprop(P ∗ (Q -∗ K ⟨⟩)) ⊢ wp frame (wpE (defs₀ (F := F)) Variants.none c none) E p K := by
  have h1 : iprop(wp frame (wpE (defs₀ (F := F)) Variants.none c none) E p (fun _ => Q) ∗ (Q -∗ K ⟨⟩))
      ⊢ wp frame (wpE (defs₀ (F := F)) Variants.none c none) E p (fun _ => iprop(Q ∗ (Q -∗ K ⟨⟩))) := wp_frame_r _ _ _
  have h2 : wp frame (wpE (defs₀ (F := F)) Variants.none c none) E p (fun _ => iprop(Q ∗ (Q -∗ K ⟨⟩)))
      ⊢ wp frame (wpE (defs₀ (F := F)) Variants.none c none) E p K := wp_mono _ _ _ fun a => by
    iintro ⟨HQ, Hk⟩
    iapply Hk
    iexact HQ
  refine BIBase.Entails.trans ?_ (BIBase.Entails.trans h1 h2)
  exact BI.sep_mono h (Idealize.SL.BI.Entails.refl _)

end Cert.KernelIdeal.Hand

end
-- ==== Proof.IBody.lean ====
module

public import proofs.«01_k».proof.Proof.ISetup

@[expose] public section

set_option maxRecDepth 16384

/-! The kernel body of `KernelIdeal` runs, from any contents of its buffers, and leaves its inputs as they were. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- What the body holds between its four conditionals: the inputs at their contents, the output block and the three
    scratch buffers at some contents, and the offsets. -/
def Held (c : Dev nD) (arg3 : Memref sig .tc .vmem S2x128x7168 .bf16) (arg4 : Memref sig .tc .vmem S7168x512 .fp8e4m3) (arg5 : Memref sig .tc .vmem S512 .f32) (arg6 : Memref sig .tc .vmem S1x1792x512 .i8) (arg7 : Memref sig .tc .vmem S1x896x512 .i8) (arg8 : Memref sig .tc .vmem S1x56x512 .bf16) (arg9 : Memref sig .tc .vmem S256x512 .bf16) (arg10 : Memref sig .tc .vmem S256x7168 .bf16) (arg11 : Memref sig .tc .vmem S256x512 .f32) (arg12 : Memref sig .tc .vmem S56x2x512 .bf16)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt c tbM xt)

set_option maxHeartbeats 4000000 in
/-- The body runs from `Held` to `Held`: each of its four conditionals does, whichever way it goes. -/
theorem body_held (c : Dev nD) (i : grid0.Coords) (arg3 : Memref sig .tc .vmem S2x128x7168 .bf16) (harg3 : arg3.IsWhole) (arg4 : Memref sig .tc .vmem S7168x512 .fp8e4m3) (harg4 : arg4.IsWhole) (arg5 : Memref sig .tc .vmem S512 .f32) (harg5 : arg5.IsWhole) (arg6 : Memref sig .tc .vmem S1x1792x512 .i8) (harg6 : arg6.IsWhole) (arg7 : Memref sig .tc .vmem S1x896x512 .i8) (harg7 : arg7.IsWhole) (arg8 : Memref sig .tc .vmem S1x56x512 .bf16) (harg8 : arg8.IsWhole) (arg9 : Memref sig .tc .vmem S256x512 .bf16) (harg9 : arg9.IsWhole) (arg10 : Memref sig .tc .vmem S256x7168 .bf16) (harg10 : arg10.IsWhole) (arg11 : Memref sig .tc .vmem S256x512 .f32) (harg11 : arg11.IsWhole) (arg12 : Memref sig .tc .vmem S56x2x512 .bf16) (harg12 : arg12.IsWhole)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) (E : Set ℕ) :
    Held c arg3 arg4 arg5 arg6 arg7 arg8 arg9 arg10 arg11 arg12 x0 x1 x2 x3 x4 x5 xt
      ⊢ wp frame (wpE (defs₀ (F := F)) Variants.none c none) E (cc0_base_plus_delta i tbM htbM arg3 harg3 arg4 harg4 arg5 harg5 arg6 harg6 arg7 harg7 arg8 harg8 arg9 harg9 arg10 harg10 arg11 harg11 arg12 harg12)
        (fun _ => Held c arg3 arg4 arg5 arg6 arg7 arg8 arg9 arg10 arg11 arg12 x0 x1 x2 x3 x4 x5 xt) := by
  simp only [cc0_base_plus_delta_eq_skeleton]; unfold cc0_base_plus_delta_skel
  simp only [k0_part1_eq_skeleton, k0_part2_eq_skeleton, k0_part3_eq_skeleton, k0_part4_eq_skeleton, k0_part5_eq_skeleton, k0_part6_eq_skeleton, k0_part7_eq_skeleton]
  unfold Held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0⟩
  by_cases hc2 : Live i (off1 (F := F) c i xt) (off2 (F := F) c i xt)
  · sl_exec (disch := sl_exact hc2)
    sl_step
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0
  · sl_exec (disch := sl_exact hc2)
    sl_step
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexact HT0

end Cert.KernelIdeal.Hand

end
-- ==== Proof.IFrame.lean ====
module

public import proofs.«01_k».proof.Proof.IBody

@[expose] public section

set_option maxRecDepth 16384

/-! The frame of `KernelIdeal`: it runs, every argument array ends unchanged, and every semaphore counter ends at zero. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window (6), of whose contents this frame says nothing. -/
def forgets : Fin 7 → Bool := fun w => w.val == 6

/-- The proof data of the pipeline: each input's buffer at its block after the body, the scratch buffers and the
    offsets held throughout, nothing owed. -/
def dats (_ : Fin 1) (c : Dev nD) : Dat τ (Elt F) Unit ℕ (UR sig nD τ) ℕ (cfgM m) c where
  A w := V m c (Pipeline.arrRef spec0 w)
  after w t := staged m c w t (Pipeline.Dat.unnamed (cfg := cfgM m) w t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_eq (c : Dev nD) (w : Fin (cfgM m).W) (t : Fin (cfgM m).N) :
    (dats m 0 c).after w t = staged m c w t (Pipeline.Dat.unnamed (cfg := cfgM m) w t) := by
  dsimp only [dats]

/-- Each input's current staging buffer holds its block when the body runs. -/
theorem before0 (c : Dev nD) (t : Fin (cfgM m).N) (d) : (dats m 0 c).before 0 t d = staged m c 0 t d :=
  before_in m (dats m 0 c) 0 rfl (fun _ => rfl) (fun _ _ _ => rfl) (A_eq m c 0) _ (after_eq m c 0) t d
theorem before1 (c : Dev nD) (t : Fin (cfgM m).N) (d) : (dats m 0 c).before 1 t d = staged m c 1 t d :=
  before_in m (dats m 0 c) 1 rfl (fun _ => rfl) (clip1 m) (A_eq m c 1) _ (after_eq m c 1) t d
theorem before2 (c : Dev nD) (t : Fin (cfgM m).N) (d) : (dats m 0 c).before 2 t d = staged m c 2 t d :=
  before_in m (dats m 0 c) 2 rfl (fun _ => rfl) (clip2 m) (A_eq m c 2) _ (after_eq m c 2) t d
theorem before3 (c : Dev nD) (t : Fin (cfgM m).N) (d) : (dats m 0 c).before 3 t d = staged m c 3 t d :=
  before_in m (dats m 0 c) 3 rfl (fun _ => rfl) (clip3 m) (A_eq m c 3) _ (after_eq m c 3) t d
theorem before4 (c : Dev nD) (t : Fin (cfgM m).N) (d) : (dats m 0 c).before 4 t d = staged m c 4 t d :=
  before_in m (dats m 0 c) 4 rfl (fun _ => rfl) (clip4 m) (A_eq m c 4) _ (after_eq m c 4) t d
theorem before5 (c : Dev nD) (t : Fin (cfgM m).N) (d) : (dats m 0 c).before 5 t d = staged m c 5 t d :=
  before_in m (dats m 0 c) 5 rfl (fun _ => rfl) (clip5 m) (A_eq m c 5) _ (after_eq m c 5) t d

/-- What the body is called with at point `t`, window by window. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare d))

/-- and what it returns: a window cut by the array's edge is stated on its inside only. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ (∃ d, owns (c : Thread nD τ) (ms1 m t) fullShare (((cfgM m).win 1).fill ((cfgM m).grid.coords t) d (((cfgM m).win 1).cut ((cfgM m).grid.coords t) ((dats m 0 c).after 1 t))))
    ∗ (∃ d, owns (c : Thread nD τ) (ms2 m t) fullShare (((cfgM m).win 2).fill ((cfgM m).grid.coords t) d (((cfgM m).win 2).cut ((cfgM m).grid.coords t) ((dats m 0 c).after 2 t))))
    ∗ (∃ d, owns (c : Thread nD τ) (ms3 m t) fullShare (((cfgM m).win 3).fill ((cfgM m).grid.coords t) d (((cfgM m).win 3).cut ((cfgM m).grid.coords t) ((dats m 0 c).after 3 t))))
    ∗ (∃ d, owns (c : Thread nD τ) (ms4 m t) fullShare (((cfgM m).win 4).fill ((cfgM m).grid.coords t) d (((cfgM m).win 4).cut ((cfgM m).grid.coords t) ((dats m 0 c).after 4 t))))
    ∗ (∃ d, owns (c : Thread nD τ) (ms5 m t) fullShare (((cfgM m).win 5).fill ((cfgM m).grid.coords t) d (((cfgM m).win 5).cut ((cfgM m).grid.coords t) ((dats m 0 c).after 5 t))))
    ∗ (∃ d, owns (c : Thread nD τ) (ms6 m t) fullShare d))

set_option maxHeartbeats 4000000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5, after_eq, Pipeline.Window.cut_fill]
  rw [show (dats m 0 c).owesAt () t.succ = (dats m 0 c).owesAt () t.castSucc from rfl]
  rw [show (dats m 0 c).Φ t.succ = iprop(Pipeline.ΦA spec0 c ∗ Pipeline.ΦT pre0 (tbl m) c) from rfl,
    show (dats m 0 c).Φ t.castSucc = iprop(Pipeline.ΦA spec0 c ∗ Pipeline.ΦT pre0 (tbl m) c) from rfl, PhiT_eq, PhiA_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, H6⟩
  have hb := body_held c (grid0.coords t) (ms0 m t) (hs0 m t) (ms1 m t) (hs1 m t) (ms2 m t) (hs2 m t) (ms3 m t) (hs3 m t)
    (ms4 m t) (hs4 m t) (ms5 m t) (hs5 m t) (ms6 m t) (hs6 m t) scM0 (Memref.isWhole_whole _) scM1 (Memref.isWhole_whole _) scM2 (Memref.isWhole_whole _)
    (staged m c 0 t d0) (staged m c 1 t d1) (staged m c 2 t d2) (staged m c 3 t d3) (staged m c 4 t d4) (staged m c 5 t d5) (tbl m 0) Set.univ
  unfold Held at hb
  iapply (wp_use hb)
  isplitl [H0 H1 H2 H3 H4 H5 H6 HS0 HS1 HS2 HT0]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HT0
  iintro ⟨H0, H1, H2, H3, H4, H5, H6, HS0, HS1, HS2, HT0⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  iexact H6

/-- The pipeline's body obligation, at every point. -/
theorem body_obligation (c : Dev nD) : BodyObligationLoose (dats (F := F) m 0 c) (defs₀ (F := F)) Variants.none () Set.univ forgets := fun t => by
  rw [bigSep_W0, bigSep_W0, defs₀_row m]
  exact triple_restated (sound_body m c t) rfl .rfl fun _ => .rfl

/-- The launch hands the region its invariant, -/
theorem hin (c : Dev nD) : iprop(Pipeline.ΦA spec0 c ∗ Pipeline.ΦT pre0 (tbl m) c) ⊢ (dats m 0 c).Φ 0 := .rfl

/-- and takes the scratch buffers back after the last point. -/
theorem hout (c : Dev nD) : (dats m 0 c).Φ (Fin.last (cfgM m).N) ⊢ Pipeline.ΦA spec0 c := by
  rw [show (dats m 0 c).Φ (Fin.last (cfgM m).N) = iprop(Pipeline.ΦA spec0 c ∗ Pipeline.ΦT pre0 (tbl m) c) from rfl]
  iintro ⟨H, -⟩
  iexact H

set_option backward.isDefEq.respectTransparency.types false in
/-- The whole run: the arrays as the pipeline leaves them, every counter at zero. -/
theorem run_main : θ_run defs (onTc (τ := τ) (main (F := F))) (s₀ m ρ) (fun r => (Pipeline.RDat.FramePost ((Pipeline.pin pcfgs fun _ => adm m) 0) (fun c => (dats m 0 c).toRForget forgets) (V m)) r ∧ r.2.sem = fun _ => 0) :=
  Pipeline.θ_run_frameP_track_forget (Q' := _) pcfgs (fun _ => adm m) (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hpf := V_pre m) (hin := hin m) (hout := hout m)

/-- The frame at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3),
      (Pipeline.RDat.FramePost.arr_in h.1 c 4 rfl).trans (A_eq m c 4),
      (Pipeline.RDat.FramePost.arr_in h.1 c 5 rfl).trans (A_eq m c 5),
      (h.1 c).2 main_arg6 (by decide : main_arg6 ∈ Pipeline.restRefs sig spec0)⟩, h.2⟩) (run_main m ρ)

end Cert.KernelIdeal.Hand

end
-- ==== Proof.IBits.lean ====
module

public import Idealize.ShloMosaic.PureOps.Vector
public import Mathlib.Tactic.IntervalCases
public import Mathlib.Tactic.FinCases

@[expose] public section

set_option maxRecDepth 16384

/-! Words of eight four-bit fields, as the kernel packs, masks and unpacks them. Pure bit arithmetic. -/

namespace Cert.Bits4

open Idealize.ShloMosaic

/-- Field `r` of a word. -/
def fld (w : BitVec 32) (r : Nat) : BitVec 4 := (w >>> (4 * r)).setWidth 4

/-- The bits of a field. -/
theorem fld_bit (w : BitVec 32) (r j : Nat) : (fld w r).getLsbD j = (decide (j < 4) && w.getLsbD (4 * r + j)) := by
  simp [fld]

/-- One bit of every field, spread over its whole field. -/
def spread (ix : BitVec 32) (k : Nat) : BitVec 32 :=
  (((ix >>> k) &&& 286331153#32) <<< 4) - ((ix >>> k) &&& 286331153#32)

/-- The selector word has its bits at the fields' low ends. -/
theorem ones_bit (i : Nat) (hi : i < 32) : (286331153#32 : BitVec 32).getLsbD i = decide (i % 4 = 0) := by
  interval_cases i <;> decide

/-- Four times shifted and joined is multiplied by fifteen, for a word with its bits at the fields' low ends. -/
theorem fifteen (b : BitVec 32) (h : ∀ i, i < 32 → i % 4 ≠ 0 → b.getLsbD i = false) :
    b <<< 4 - b = b ||| (b <<< 1) ||| (b <<< 2) ||| (b <<< 3) := by
  have d1 : b &&& (b <<< 1) = 0#32 := by
    apply BitVec.eq_of_getLsbD_eq; intro i hi
    by_cases h4 : i % 4 = 0
    · by_cases h0 : i = 0
      · subst h0; simp
      · have : b.getLsbD (i - 1) = false := h _ (by omega) (by omega)
        simp [this]
    · simp [h i hi h4]
  have d2 : (b ||| (b <<< 1)) &&& (b <<< 2) = 0#32 := by
    apply BitVec.eq_of_getLsbD_eq; intro i hi
    by_cases h4 : i % 4 = 2
    · have e1 : b.getLsbD i = false := h _ (by omega) (by omega)
      have e2 : b.getLsbD (i - 1) = false := h _ (by omega) (by omega)
      simp [e1, e2]
    · by_cases h2 : i < 2
      · simp [h2]
      · have : b.getLsbD (i - 2) = false := h _ (by omega) (by omega)
        simp [this]
  have d3 : (b ||| (b <<< 1) ||| (b <<< 2)) &&& (b <<< 3) = 0#32 := by
    apply BitVec.eq_of_getLsbD_eq; intro i hi
    by_cases h4 : i % 4 = 3
    · have e1 : b.getLsbD i = false := h _ (by omega) (by omega)
      have e2 : b.getLsbD (i - 1) = false := h _ (by omega) (by omega)
      have e3 : b.getLsbD (i - 2) = false := h _ (by omega) (by omega)
      simp [e1, e2, e3]
    · by_cases h2 : i < 3
      · simp [h2]
      · have : b.getLsbD (i - 3) = false := h _ (by omega) (by omega)
        simp [this]
  rw [← BitVec.add_eq_or_of_and_eq_zero _ _ d3, ← BitVec.add_eq_or_of_and_eq_zero _ _ d2, ← BitVec.add_eq_or_of_and_eq_zero _ _ d1]
  apply BitVec.eq_of_toNat_eq
  simp only [BitVec.toNat_sub, BitVec.toNat_add, BitVec.toNat_shiftLeft, Nat.shiftLeft_eq]
  have := b.isLt
  omega

/-- Every bit of field `r` of the spread word is bit `k` of field `r`. -/
theorem spread_bit (ix : BitVec 32) (k r j : Nat) (hk : k < 4) (hr : r < 8) (hj : j < 4) :
    (spread ix k).getLsbD (4 * r + j) = ix.getLsbD (4 * r + k) := by
  have hb : ∀ i, i < 32 → ((ix >>> k) &&& 286331153#32).getLsbD i = (ix.getLsbD (i + k) && decide (i % 4 = 0)) := fun i hi => by
    rw [BitVec.getLsbD_and, BitVec.getLsbD_ushiftRight, ones_bit i hi, Nat.add_comm]
  unfold spread
  generalize (ix >>> k) &&& 286331153#32 = b at hb ⊢
  rw [fifteen b fun i hi h4 => by rw [hb i hi]; simp [h4]]
  simp only [BitVec.getLsbD_or, BitVec.getLsbD_shiftLeft]
  rw [hb (4 * r + j) (by omega), hb (4 * r + j - 1) (by omega), hb (4 * r + j - 2) (by omega), hb (4 * r + j - 3) (by omega)]
  have z1 : 1 ≤ r → ¬ (4 * r - 1) % 4 = 0 := by omega
  have z2 : 1 ≤ r → ¬ (4 * r - 2) % 4 = 0 := by omega
  interval_cases j
  · by_cases h0 : r = 0
    · subst h0; simp
    · have n1 : ¬ (4 * r - 1) % 4 = 0 := by omega
      have n2 : ¬ (4 * r - 2) % 4 = 0 := by omega
      have n3 : ¬ (4 * r - 3) % 4 = 0 := by omega
      simp [n1, n2, n3]
  · have n0 : ¬ (4 * r + 1) % 4 = 0 := by omega
    have e1 : 4 * r + 1 - 1 = 4 * r := by omega
    by_cases h0 : r = 0
    · subst h0; simp
    · have n2 : ¬ (4 * r + 1 - 2) % 4 = 0 := by omega
      have n3 : ¬ (4 * r + 1 - 3) % 4 = 0 := by omega
      have l : 4 * r + 1 < 32 := by omega
      simp [n0, n2, n3, e1, l, z1 (by omega), z2 (by omega)]
  · have n0 : ¬ (4 * r + 2) % 4 = 0 := by omega
    have n1 : ¬ (4 * r + 2 - 1) % 4 = 0 := by omega
    have e1 : 4 * r + 2 - 2 = 4 * r := by omega
    by_cases h0 : r = 0
    · subst h0; simp
    · have n3 : ¬ (4 * r + 2 - 3) % 4 = 0 := by omega
      have l : 4 * r + 2 < 32 := by omega
      simp +contextual [n0, n1, n3, e1, l, z1 (by omega), z2 (by omega)]
  · have n0 : ¬ (4 * r + 3) % 4 = 0 := by omega
    have n1 : ¬ (4 * r + 3 - 1) % 4 = 0 := by omega
    have n2 : ¬ (4 * r + 3 - 2) % 4 = 0 := by omega
    have e1 : 4 * r + 3 - 3 = 4 * r := by omega
    have l : 4 * r + 3 < 32 := by omega
    have l' : ¬ 4 * r + 3 < 3 := by omega
    simp [n0, n1, n2, e1, l, l']

/-- A four-bit field all ones or all zeros. -/
def all (b : Bool) : BitVec 4 := if b then 15#4 else 0#4

theorem all_bit (b : Bool) (j : Nat) : (all b).getLsbD j = (decide (j < 4) && b) := by
  cases b
  · simp [all]
  · by_cases hj : j < 4
    · interval_cases j <;> decide
    · rw [BitVec.getLsbD_of_ge _ _ (by omega)]; simp [hj]

/-- The fields of a spread word. -/
theorem fld_spread (ix : BitVec 32) (k r : Nat) (hk : k < 4) (hr : r < 8) : fld (spread ix k) r = all ((fld ix r).getLsbD k) := by
  apply BitVec.eq_of_getLsbD_eq; intro j hj
  rw [fld_bit, all_bit, fld_bit, spread_bit ix k r j hk hr hj]
  simp [hk]

theorem fld_and (a b : BitVec 32) (r : Nat) : fld (a &&& b) r = fld a r &&& fld b r := by
  apply BitVec.eq_of_getLsbD_eq; intro j hj
  simp only [BitVec.getLsbD_and, BitVec.getLsbD_or, BitVec.getLsbD_xor, fld_bit, hj, decide_true, Bool.true_and]
theorem fld_or (a b : BitVec 32) (r : Nat) : fld (a ||| b) r = fld a r ||| fld b r := by
  apply BitVec.eq_of_getLsbD_eq; intro j hj
  simp only [BitVec.getLsbD_and, BitVec.getLsbD_or, BitVec.getLsbD_xor, fld_bit, hj, decide_true, Bool.true_and]
theorem fld_xor (a b : BitVec 32) (r : Nat) : fld (a ^^^ b) r = fld a r ^^^ fld b r := by
  apply BitVec.eq_of_getLsbD_eq; intro j hj
  simp only [BitVec.getLsbD_and, BitVec.getLsbD_or, BitVec.getLsbD_xor, fld_bit, hj, decide_true, Bool.true_and]

/-- What one field of the index byte selects for position `p` of the quad: the first value at the first index, the second
    at the second. -/
def pick (v0 v1 nx : BitVec 4) (p : Nat) : BitVec 4 :=
  if (nx &&& 3#4).toNat = p then v0 else if (nx >>> 2).toNat = p then v1 else 0#4

/-- The four planes of a field are that selection, for an index pair in ascending order. -/
theorem planes (v0 v1 nx : BitVec 4) (h : (nx &&& 3#4).toNat < (nx >>> 2).toNat) :
    ((v0 ^^^ (v0 &&& all (nx.getLsbD 0))) ^^^ (v0 &&& all (nx.getLsbD 1)) = pick v0 v1 nx 0)
    ∧ ((v0 &&& all (nx.getLsbD 0)) ||| (v1 ^^^ (v1 &&& all (nx.getLsbD 3))) = pick v0 v1 nx 1)
    ∧ ((v0 &&& all (nx.getLsbD 1)) ||| ((v1 &&& all (nx.getLsbD 3)) ^^^ ((v1 &&& all (nx.getLsbD 3)) &&& all (nx.getLsbD 2))) = pick v0 v1 nx 2)
    ∧ ((v1 &&& all (nx.getLsbD 3)) &&& all (nx.getLsbD 2) = pick v0 v1 nx 3) := by
  revert nx v0 v1; unfold pick all; decide +kernel

/-- A field taken out of the low end. -/
theorem low_field (x : BitVec 4) : x.signExtend 32 &&& 15#32 = x.setWidth 32 := by
  revert x; decide

/-- Eight fields packed, each taken back. -/
theorem fld_pack (x0 x1 x2 x3 x4 x5 x6 x7 : BitVec 4) (r : Nat) (hr : r < 8) :
    fld (x0.setWidth 32 ||| x1.setWidth 32 <<< 4 ||| x2.setWidth 32 <<< 8 ||| x3.setWidth 32 <<< 12 ||| x4.setWidth 32 <<< 16
      ||| x5.setWidth 32 <<< 20 ||| x6.setWidth 32 <<< 24 ||| x7.setWidth 32 <<< 28) r
      = match r with | 0 => x0 | 1 => x1 | 2 => x2 | 3 => x3 | 4 => x4 | 5 => x5 | 6 => x6 | _ => x7 := by
  have past (x : BitVec 4) (i : Nat) (h : 4 ≤ i) : x.getLsbD i = false := BitVec.getLsbD_of_ge x i h
  apply BitVec.eq_of_getLsbD_eq; intro j hj
  rw [fld_bit]
  interval_cases r <;> interval_cases j <;> simp [past]

end Cert.Bits4

end
-- ==== Proof.ILoop.lean ====
module

public import proofs.«01_k».proof.Proof.ISetup
public import Idealize.ShloMosaic.Lib.VecWindow

@[expose] public section

set_option maxRecDepth 16384

/-! What the tile loop of `KernelIdeal` leaves in the accumulator. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The low values' words of a tile, -/
def tv93 (v38 : Vec F S1x64x512 .i8) : IVec S8x512 32 := k0_pay48 (k0_pay45 v38) (k0_pay46 v38) (k0_pay47 v38)
/-- and the pieces of the high values' words. -/
def tv101 (v38 : Vec F S1x64x512 .i8) : IVec S8x8x512 32 := k0_pay49 (k0_pay44 v38)
def tv123 (v38 : Vec F S1x64x512 .i8) : IVec S8x512 32 := k0_pay50 (k0_pay44 v38)
def tv125 (v38 : Vec F S1x64x512 .i8) : IVec S8x512 32 := k0_pay51 (k0_pay44 v38)

/-- One tile's update of the accumulator, from the tile's value bytes, index bytes, two scale rows and activations. -/
def tileV (v1 v4 : Elt F .i32) (v38 : Vec F S1x64x512 .i8) (v42 : Vec F S1x32x512 .i8) (v46 v50 : Vec F S1x2x512 .bf16)
    (v233 : Vec F S256x256 .bf16) (A : Vec F S256x512 .f32) : Vec F S256x512 .f32 :=
  k0_pay6 v1 v4 (k0_pay59 (k0_pay40 v46) (k0_pay41 v46) (k0_pay42 v50) (k0_pay43 v50))
    (k0_pay60 (k0_pay40 v46) (k0_pay41 v46) (k0_pay42 v50) (k0_pay43 v50) (k0_pay58 (k0_pay39 v42) (tv93 v38)))
    (k0_pay61 (k0_pay40 v46) (k0_pay41 v46) (k0_pay42 v50) (k0_pay43 v50) (k0_pay52 (tv101 v38) (tv123 v38) (tv125 v38)) (k0_pay54 (k0_pay39 v42) (tv93 v38)) (k0_pay56 (k0_pay39 v42) (tv101 v38) (tv123 v38) (tv125 v38)))
    (k0_pay62 (k0_pay40 v46) (k0_pay41 v46) (k0_pay42 v50) (k0_pay43 v50) (k0_pay55 (k0_pay39 v42) (tv93 v38)) (k0_pay56 (k0_pay39 v42) (tv101 v38) (tv123 v38) (tv125 v38)) (k0_pay57 (k0_pay39 v42) (tv101 v38) (tv123 v38) (tv125 v38)))
    (k0_pay63 (F := F) (k0_pay57 (k0_pay39 v42) (tv101 v38) (tv123 v38) (tv125 v38))) v233 A

/-- Trip `k`'s update, from the whole blocks. -/
def tripV (v1 v4 : Elt F .i32) (x3 : Vec F S1x1792x512 .i8) (x4 : Vec F S1x896x512 .i8) (xp : Vec F S256x7168 .bf16) (sc : Vec F S56x2x512 .bf16)
    (k : Fin k0_t1_loop.trips) (A : Vec F S256x512 .f32) : Vec F S256x512 .f32 :=
  tileV v1 v4 (View.ld x3 (Rect.unit (s := S1x1792x512) (k0_off3 k) S1x64x512.size (k0_off3_inb k)))
    (View.ld x4 (Rect.unit (s := S1x896x512) (k0_off4 k) S1x32x512.size (k0_off4_inb k)))
    (View.ld sc (Rect.unit (s := S56x2x512) (k0_off5 k) S1x2x512.size (k0_off5_inb k)))
    (View.ld sc (Rect.unit (s := S56x2x512) (k0_off6 k) S1x2x512.size (k0_off6_inb k)))
    (View.ld xp (Rect.unit (s := S256x7168) (k0_off7 k) S256x256.size (k0_off7_inb k))) A

/-- The accumulator after the first `k` trips. -/
def loopV (v1 v4 : Elt F .i32) (x3 : Vec F S1x1792x512 .i8) (x4 : Vec F S1x896x512 .i8) (xp : Vec F S256x7168 .bf16) (sc : Vec F S56x2x512 .bf16)
    (A : Vec F S256x512 .f32) : ℕ → Vec F S256x512 .f32
  | 0 => A
  | k + 1 => if h : k < k0_t1_loop.trips then tripV v1 v4 x3 x4 xp sc ⟨k, h⟩ (loopV v1 v4 x3 x4 xp sc A k) else loopV v1 v4 x3 x4 xp sc A k

set_option maxHeartbeats 4000000 in
/-- One trip writes the whole accumulator, its update. -/
theorem trip_pieces (c : Dev nD) (i : grid0.Coords) (arg2 : Memref sig .tc .smem S12 .i32) (harg2 : arg2.IsWhole) (arg3 : Memref sig .tc .vmem S2x128x7168 .bf16) (harg3 : arg3.IsWhole) (arg4 : Memref sig .tc .vmem S7168x512 .fp8e4m3) (harg4 : arg4.IsWhole) (arg5 : Memref sig .tc .vmem S512 .f32) (harg5 : arg5.IsWhole) (arg6 : Memref sig .tc .vmem S1x1792x512 .i8) (harg6 : arg6.IsWhole) (arg7 : Memref sig .tc .vmem S1x896x512 .i8) (harg7 : arg7.IsWhole) (arg8 : Memref sig .tc .vmem S1x56x512 .bf16) (harg8 : arg8.IsWhole) (arg9 : Memref sig .tc .vmem S256x512 .bf16) (harg9 : arg9.IsWhole) (arg10 : Memref sig .tc .vmem S256x7168 .bf16) (harg10 : arg10.IsWhole) (arg11 : Memref sig .tc .vmem S256x512 .f32) (harg11 : arg11.IsWhole) (arg12 : Memref sig .tc .vmem S56x2x512 .bf16) (harg12 : arg12.IsWhole) (v1 v4 : Elt F .i32)
    (X6 : BufTy.Contents (Elt F) arg6.view.ty) (X7 : BufTy.Contents (Elt F) arg7.view.ty) (X10 : BufTy.Contents (Elt F) arg10.view.ty) (X12 : BufTy.Contents (Elt F) arg12.view.ty)
    (k : Fin k0_t1_loop.trips) (f : BufTy.Contents (Elt F) arg11.view.ty) :
    tripL_k0_t1 (F := F) Variants.none c none i arg2 harg2 arg3 harg3 arg4 harg4 arg5 harg5 arg6 harg6 arg7 harg7 arg8 harg8 arg9 harg9 arg10 harg10 arg11 harg11 arg12 harg12 v1 v4 X6 X7 X10 X12 k f
      = [⟨Rect.unit (s := S256x512) ![0, 0] S256x512.size inb_S256x512_S256x512_0_0,
          tripV v1 v4 (arg6.view.read (Elt F) X6) (arg7.view.read (Elt F) X7) (arg10.view.read (Elt F) X10) (arg12.view.read (Elt F) X12) k (arg11.view.read (Elt F) f)⟩] := by
  rw [← View.readAt_full (Val := Elt F) arg11.view f inb_S256x512_S256x512_0_0]
  unfold tripL_k0_t1 trip_k0_t1
  rfl

/-- A whole-buffer write, last, is what is read back. -/
theorem read_whole_writes {sp : Space} {s : Shape} {e : EltTy} (v : View sig .tc sp s e) (f : v.ty.Contents (Elt F)) {off : Fin s.rank → ℕ} (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  have h := View.readAt_writes_full (Val := Elt F) v f inb inb w L
  rwa [View.readAt_full] at h

/-- The loop's pieces read back as its trips' updates, one after another. -/
theorem loop_read (c : Dev nD) (i : grid0.Coords) (arg2 : Memref sig .tc .smem S12 .i32) (harg2 : arg2.IsWhole) (arg3 : Memref sig .tc .vmem S2x128x7168 .bf16) (harg3 : arg3.IsWhole) (arg4 : Memref sig .tc .vmem S7168x512 .fp8e4m3) (harg4 : arg4.IsWhole) (arg5 : Memref sig .tc .vmem S512 .f32) (harg5 : arg5.IsWhole) (arg6 : Memref sig .tc .vmem S1x1792x512 .i8) (harg6 : arg6.IsWhole) (arg7 : Memref sig .tc .vmem S1x896x512 .i8) (harg7 : arg7.IsWhole) (arg8 : Memref sig .tc .vmem S1x56x512 .bf16) (harg8 : arg8.IsWhole) (arg9 : Memref sig .tc .vmem S256x512 .bf16) (harg9 : arg9.IsWhole) (arg10 : Memref sig .tc .vmem S256x7168 .bf16) (harg10 : arg10.IsWhole) (arg11 : Memref sig .tc .vmem S256x512 .f32) (harg11 : arg11.IsWhole) (arg12 : Memref sig .tc .vmem S56x2x512 .bf16) (harg12 : arg12.IsWhole) (v1 v4 : Elt F .i32)
    (X6 : BufTy.Contents (Elt F) arg6.view.ty) (X7 : BufTy.Contents (Elt F) arg7.view.ty) (X10 : BufTy.Contents (Elt F) arg10.view.ty) (X12 : BufTy.Contents (Elt F) arg12.view.ty)
    (G : BufTy.Contents (Elt F) arg11.view.ty) (k : ℕ) (hk : k ≤ k0_t1_loop.trips) :
    arg11.view.read (Elt F) (arg11.view.writes (Elt F) G (pb_k0_t1 (F := F) Variants.none c none i arg2 harg2 arg3 harg3 arg4 harg4 arg5 harg5 arg6 harg6 arg7 harg7 arg8 harg8 arg9 harg9 arg10 harg10 arg11 harg11 arg12 harg12 v1 v4 X6 X7 X10 X12 G k))
      = loopV v1 v4 (arg6.view.read (Elt F) X6) (arg7.view.read (Elt F) X7) (arg10.view.read (Elt F) X10) (arg12.view.read (Elt F) X12) (arg11.view.read (Elt F) G) k := by
  induction k with
  | zero => rfl
  | succ k ih =>
    have h : k < k0_t1_loop.trips := hk
    rw [pb_k0_t1_succ (k := ⟨k, h⟩), trip_pieces, List.singleton_append, read_whole_writes, ih (Nat.le_of_lt h), loopV, dif_pos h]

end Cert.KernelIdeal.Hand

end
-- ==== Proof.IWords.lean ====
module

public import proofs.«01_k».proof.Proof.IBits
public import proofs.«01_k».proof.Proof.ILoop
public import Idealize.ShloMosaic.Lib.BitcastFour
public import Idealize.ShloMosaic.Lib.Pointwise

@[expose] public section

set_option maxRecDepth 16384

/-! The kernel's words of a tile, field by field, as the bytes they are made of. -/

noncomputable section

namespace Cert.KernelIdeal.Hand

open Idealize.ShloMosaic
open Cert.KernelIdeal.Gen Cert.Bits4

variable {F : FTy → Type} [FloatOps F]

/-- The low half of a byte, -/
def lo4 (b : BitVec 8) : BitVec 4 := b.setWidth 4
/-- the high half, -/
def hi4 (b : BitVec 8) : BitVec 4 := (b >>> 4).setWidth 4
/-- and either. -/
def half4 (b : BitVec 8) (odd : ℕ) : BitVec 4 := (b >>> (4 * odd)).setWidth 4

/-- A field of a word made of four bytes is a half of one of the bytes. -/
theorem fld_bitcast (x : S32x512.Idx → BitVec 8) (h : S32x512.Bitcasts 8 S8x512 32) (a : Fin 8) (c : Fin 512) (r : ℕ) (hr : r < 8) :
    fld (bitcast S8x512 32 x h (ix2 a c)) r = half4 (x (ix2 ⟨4 * a.val + r / 2, by omega⟩ c)) (r % 2) := by
  apply BitVec.eq_of_getLsbD_eq; intro j hj
  rw [fld_bit, half4, ix2_eq_valueIdx, ix2_eq_valueIdx,
    bitcast_8_32_getLsbD_ix2 x h a c (4 * r + j) (by omega) ⟨4 * a.val + r / 2, by omega⟩ (by show 4 * a.val + r / 2 = 4 * a.val + (4 * r + j) / 8; omega)]
  have e : (4 * r + j) % 8 = 4 * (r % 2) + j := by omega
  rw [e]; simp only [BitVec.getLsbD_setWidth, BitVec.getLsbD_ushiftRight]

/-- Words read at eight bits: bit `q` of byte row `p` is bit `8 (p mod 4) + q` of word row `p / 4`. -/
theorem bitcast_32_8_ix2 (x : S16x512.Idx → BitVec 32) (h : S16x512.Bitcasts 32 S64x512 8) (p : Fin 64) (c : Fin 512) (q : ℕ) (hq : q < 8) :
    (bitcast S64x512 8 x h (ix2 p c)).getLsbD q = (x (ix2 ⟨p.val / 4, by omega⟩ c)).getLsbD (8 * (p.val % 4) + q) := by
  rw [bitcast_getLsbD x h _ q hq (by decide)]
  have hrow : S64x512.row (ix2 p c) = p.val := rfl
  have e1 : (S64x512.row (ix2 p c) * 8 + q) / 32 = p.val / 4 := by rw [hrow]; omega
  have e2 : (S64x512.row (ix2 p c) * 8 + q) % 32 = 8 * (p.val % 4) + q := by rw [hrow]; omega
  rw [e2]
  congr 2
  funext a
  match a with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by decide))

/-- The high half of each byte, shifted down as part of its word. -/
theorem hi_shift (x : S64x512.Idx → BitVec 8) (h : S64x512.Bitcasts 8 S16x512 32) (h' : S16x512.Bitcasts 32 S64x512 8) (p : Fin 64) (c : Fin 512) :
    (bitcast S64x512 8 (shrui (bitcast S16x512 32 x h) (broadcast S16x512 4#32)) h' (ix2 p c)).setWidth 4 = hi4 (x (ix2 p c)) := by
  apply BitVec.eq_of_getLsbD_eq; intro j hj
  rw [BitVec.getLsbD_setWidth, bitcast_32_8_ix2 _ _ p c j (by omega)]
  have e : shrui (bitcast S16x512 32 x h) (broadcast S16x512 4#32) (ix2 ⟨p.val / 4, by omega⟩ c) = bitcast S16x512 32 x h (ix2 ⟨p.val / 4, by omega⟩ c) >>> 4 := rfl
  rw [e, BitVec.getLsbD_ushiftRight, ix2_eq_valueIdx, ix2_eq_valueIdx,
    bitcast_8_32_getLsbD_ix2 x h _ c (4 + (8 * (p.val % 4) + j)) (by omega) p (by show p.val = 4 * (p.val / 4) + (4 + (8 * (p.val % 4) + j)) / 8; omega)]
  have e : (4 + (8 * (p.val % 4) + j)) % 8 = 4 + j := by omega
  rw [e, hi4]; simp only [BitVec.getLsbD_setWidth, BitVec.getLsbD_ushiftRight]

/-- The kernel's shift and truncation take a field out. -/
theorem field_out (w : BitVec 32) (r : ℕ) (hr : r < 8) :
    BitVec.setWidth 4 (IntOp.shrui .vector w (IntOp.muli (BitVec.ofNat 32 r) 4#32)) = fld w r := by
  have e : IntOp.muli (BitVec.ofNat 32 r) 4#32 = BitVec.ofNat 32 (4 * r) := by
    revert r; decide
  rw [e]
  unfold IntOp.shrui fld
  have e2 : (BitVec.ofNat 32 (4 * r)).toNat = 4 * r := by
    rw [BitVec.toNat_ofNat, Nat.mod_eq_of_lt (by omega)]
  rw [if_pos (by rw [e2]; omega)]
  congr 1
  apply BitVec.eq_of_toNat_eq
  rw [BitVec.toNat_ushiftRight, BitVec.ushiftRight_eq', BitVec.toNat_ushiftRight, e2]

/-- One of eight packed fields, as the kernel packs them: sign-extended, masked, shifted by a constant, joined. -/
theorem packed (x : Fin 8 → BitVec 4) (r : Fin 8) :
    fld (IntOp.ori (IntOp.ori (IntOp.ori (IntOp.ori (IntOp.ori (IntOp.ori (IntOp.ori (IntOp.andi (BitVec.signExtend 32 (x 0)) 15#32)
      (IntOp.shli .vector (IntOp.andi (BitVec.signExtend 32 (x 1)) 15#32) 4#32)) (IntOp.shli .vector (IntOp.andi (BitVec.signExtend 32 (x 2)) 15#32) 8#32))
      (IntOp.shli .vector (IntOp.andi (BitVec.signExtend 32 (x 3)) 15#32) 12#32)) (IntOp.shli .vector (IntOp.andi (BitVec.signExtend 32 (x 4)) 15#32) 16#32))
      (IntOp.shli .vector (IntOp.andi (BitVec.signExtend 32 (x 5)) 15#32) 20#32)) (IntOp.shli .vector (IntOp.andi (BitVec.signExtend 32 (x 6)) 15#32) 24#32))
      (IntOp.shli .vector (IntOp.andi (BitVec.signExtend 32 (x 7)) 15#32) 28#32)) r.val = x r := by
  have e : ∀ y : BitVec 4, IntOp.andi (BitVec.signExtend 32 y) 15#32 = y.setWidth 32 := low_field
  simp only [e]
  refine (fld_pack (x 0) (x 1) (x 2) (x 3) (x 4) (x 5) (x 6) (x 7) r.val r.isLt).trans ?_
  fin_cases r <;> rfl

/-- The low values' words. -/
theorem fld_v0 (v38 : Vec F S1x64x512 .i8) (a : Fin 8) (c : Fin 512) (r : Fin 8) :
    fld (tv93 v38 (ix2 a c)) r.val = lo4 (v38 (ix3 0 ⟨a.val * 8 + r.val, by omega⟩ c)) := by
  refine Eq.trans (congrArg (fun w => fld w r.val) ?_) (packed (fun r => lo4 (v38 (ix3 0 ⟨a.val * 8 + r.val, by omega⟩ c))) r)
  unfold tv93 lo4
  pointwise [k0_pay48, k0_pay47, k0_pay46, k0_pay45, k0_pay38]

/-- The high values' words. -/
def tw1 (v38 : Vec F S1x64x512 .i8) : IVec S8x512 32 := k0_pay52 (tv101 v38) (tv123 v38) (tv125 v38)

theorem fld_v1 (v38 : Vec F S1x64x512 .i8) (a : Fin 8) (c : Fin 512) (r : Fin 8) :
    fld (tw1 v38 (ix2 a c)) r.val = hi4 (v38 (ix3 0 ⟨a.val * 8 + r.val, by omega⟩ c)) := by
  have key : ∀ p : Fin 64, (bitcast S64x512 8 (shrui (k0_pay44 v38) (broadcast S16x512 4#32)) bitcasts_S16x512_w32_S64x512_w8 (ix2 p c)).setWidth 4 = hi4 (v38 (ix3 0 p c)) := fun p => by
    unfold k0_pay44
    rw [hi_shift]
    congr 1
    pointwise [k0_pay38]
  refine Eq.trans (congrArg (fun w => fld w r.val) ?_) (packed (fun r => hi4 (v38 (ix3 0 ⟨a.val * 8 + r.val, by omega⟩ c))) r)
  simp only [← key]
  unfold tw1 tv101 tv123 tv125
  generalize k0_pay44 v38 = y
  pointwise [k0_pay52, k0_pay51, k0_pay50, k0_pay49]

/-- The index words. -/
def twx (v42 : Vec F S1x32x512 .i8) : IVec S8x512 32 := k0_pay53 (k0_pay39 v42)

theorem fld_ix (v42 : Vec F S1x32x512 .i8) (a : Fin 8) (c : Fin 512) (r : Fin 8) :
    fld (twx v42 (ix2 a c)) r.val = half4 (v42 (ix3 0 ⟨4 * a.val + r.val / 2, by omega⟩ c)) (r.val % 2) := by
  unfold twx k0_pay53
  rw [fld_bitcast _ _ a c r.val r.isLt]
  congr 1
  pointwise [k0_pay39]

/-- The words masked by one bit of every index field. -/
theorem w54 (v42 : Vec F S1x32x512 .i8) (w : IVec S8x512 32) (y : S8x512.Idx) : k0_pay54 (k0_pay39 v42) w y = w y &&& spread (twx v42 y) 0 := by
  unfold twx spread
  rw [BitVec.ushiftRight_zero]
  rfl
theorem w55 (v42 : Vec F S1x32x512 .i8) (w : IVec S8x512 32) (y : S8x512.Idx) : k0_pay55 (k0_pay39 v42) w y = w y &&& spread (twx v42 y) 1 := rfl
theorem w56 (v38 : Vec F S1x64x512 .i8) (v42 : Vec F S1x32x512 .i8) (y : S8x512.Idx) :
    k0_pay56 (k0_pay39 v42) (tv101 v38) (tv123 v38) (tv125 v38) y = tw1 v38 y &&& spread (twx v42 y) 3 := rfl
theorem w57 (v38 : Vec F S1x64x512 .i8) (v42 : Vec F S1x32x512 .i8) (y : S8x512.Idx) :
    k0_pay57 (k0_pay39 v42) (tv101 v38) (tv123 v38) (tv125 v38) y = (tw1 v38 y &&& spread (twx v42 y) 3) &&& spread (twx v42 y) 2 := rfl

/-- The index byte of quad `q`, and what the quad's field selects for position `p`. -/
def nibOf (v42 : Vec F S1x32x512 .i8) (q : Fin 64) (c : Fin 512) : BitVec 4 := half4 (v42 (ix3 0 ⟨q.val / 2, by omega⟩ c)) (q.val % 2)
def pickOf (v38 : Vec F S1x64x512 .i8) (v42 : Vec F S1x32x512 .i8) (q : Fin 64) (c : Fin 512) (p : ℕ) : BitVec 4 :=
  pick (lo4 (v38 (ix3 0 q c))) (hi4 (v38 (ix3 0 q c))) (nibOf v42 q c) p
/-- The quad's two indices are in ascending order. -/
def Asc (nx : BitVec 4) : Prop := (nx &&& 3#4).toNat < (nx >>> 2).toNat

/-- The four planes, field by field. -/
theorem fld_planes (v38 : Vec F S1x64x512 .i8) (v42 : Vec F S1x32x512 .i8) (q : Fin 64) (c : Fin 512) (h : Asc (nibOf v42 q c))
    (y : S8x512.Idx) (hy : y = ix2 ⟨q.val / 8, by omega⟩ c) :
    fld (k0_pay58 (k0_pay39 v42) (tv93 v38) y) (q.val % 8) = pickOf v38 v42 q c 0
    ∧ fld (k0_pay54 (k0_pay39 v42) (tv93 v38) y ||| (tw1 v38 y ^^^ k0_pay56 (k0_pay39 v42) (tv101 v38) (tv123 v38) (tv125 v38) y)) (q.val % 8) = pickOf v38 v42 q c 1
    ∧ fld (k0_pay55 (k0_pay39 v42) (tv93 v38) y ||| (k0_pay56 (k0_pay39 v42) (tv101 v38) (tv123 v38) (tv125 v38) y ^^^ k0_pay57 (k0_pay39 v42) (tv101 v38) (tv123 v38) (tv125 v38) y)) (q.val % 8) = pickOf v38 v42 q c 2
    ∧ fld (k0_pay57 (k0_pay39 v42) (tv101 v38) (tv123 v38) (tv125 v38) y) (q.val % 8) = pickOf v38 v42 q c 3 := by
  have hr : q.val % 8 < 8 := by omega
  have e0 : fld (tv93 v38 y) (q.val % 8) = lo4 (v38 (ix3 0 q c)) := by
    rw [hy, fld_v0 v38 _ c ⟨q.val % 8, hr⟩]
    congr 3; exact Fin.ext (Nat.div_add_mod' q.val 8)
  have e1 : fld (tw1 v38 y) (q.val % 8) = hi4 (v38 (ix3 0 q c)) := by
    rw [hy, fld_v1 v38 _ c ⟨q.val % 8, hr⟩]
    congr 3; exact Fin.ext (Nat.div_add_mod' q.val 8)
  have ex : fld (twx v42 y) (q.val % 8) = nibOf v42 q c := by
    rw [hy, fld_ix v42 _ c ⟨q.val % 8, hr⟩]
    unfold nibOf
    have a : (⟨4 * (q.val / 8) + q.val % 8 / 2, by omega⟩ : Fin 32) = ⟨q.val / 2, by omega⟩ := Fin.ext (by show 4 * (q.val / 8) + q.val % 8 / 2 = q.val / 2; omega)
    have b : q.val % 8 % 2 = q.val % 2 := by omega
    show half4 (v42 (ix3 0 ⟨4 * (q.val / 8) + q.val % 8 / 2, _⟩ c)) (q.val % 8 % 2) = _
    rw [b, a]
  have hp := planes (lo4 (v38 (ix3 0 q c))) (hi4 (v38 (ix3 0 q c))) (nibOf v42 q c) h
  have e58 : k0_pay58 (k0_pay39 v42) (tv93 v38) y = (tv93 v38 y ^^^ k0_pay54 (k0_pay39 v42) (tv93 v38) y) ^^^ k0_pay55 (k0_pay39 v42) (tv93 v38) y := rfl
  simp only [e58, w54, w55, w56, w57, fld_and, fld_or, fld_xor, e0, e1, fld_spread _ 0 _ (by decide) hr, fld_spread _ 1 _ (by decide) hr,
    fld_spread _ 2 _ (by decide) hr, fld_spread _ 3 _ (by decide) hr, ex]
  exact hp

end Cert.KernelIdeal.Hand

end
-- ==== Proof.IStep.lean ====
module

public import proofs.«01_k».proof.Proof.ILoop
public import Idealize.ShloMosaic.Lib.Pointwise

@[expose] public section

set_option maxRecDepth 16384

/-! The kernel body of `KernelIdeal`, with what it leaves in the output block and in its scratch buffers. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- One tile of the activations, its columns permuted. -/
def permTile (v : Vec F S2x128x256 .bf16) : FVec F S256x256 .bf16 := k0_pay2 (k0_pay9 k0_pay8) v

theorem inbX (k : Fin 28) : ∀ a, (![0, 256 * k.val] : Fin 2 → ℕ) a + S256x256.size a ≤ S256x7168.size a := by
  revert k; decide
theorem inb3 (k : Fin 28) : ∀ a, (![0, 0, 256 * k.val] : Fin 3 → ℕ) a + S2x128x256.size a ≤ S2x128x7168.size a := by
  revert k; decide

/-- The write of tile `k`. -/
def xpPiece (x0 : Vec F S2x128x7168 .bf16) (k : Fin 28) : View.Piece (Elt F) S256x7168 .bf16 :=
  ⟨Rect.unit (s := S256x7168) ![0, 256 * k.val] S256x256.size (inbX k), permTile (View.ld x0 (Rect.unit (s := S2x128x7168) ![0, 0, 256 * k.val] S2x128x256.size (inb3 k)))⟩

/-- The permuted activations. -/
def xpOf (x0 : Vec F S2x128x7168 .bf16) : Vec F S256x7168 .bf16 := fun y =>
  permTile (View.ld x0 (Rect.unit (s := S2x128x7168) ![0, 0, 256 * ((y 1).val / 256)] S2x128x256.size (inb3 ⟨(y 1).val / 256, Nat.div_lt_of_lt_mul (y 1).isLt⟩)))
    (ix2 (y 0) ⟨(y 1).val % 256, Nat.mod_lt _ (by decide)⟩)

/-- Tile writes, whichever their order, read back as the tiles. -/
theorem read_tiles {sp : Space} (v : View sig .tc sp S256x7168 .bf16) (f : v.ty.Contents (Elt F)) (x0 : Vec F S2x128x7168 .bf16) (y : S256x7168.Idx) :
    ∀ ks : List (Fin 28), (⟨(y 1).val / 256, Nat.div_lt_of_lt_mul (y 1).isLt⟩ : Fin 28) ∈ ks →
      v.read (Elt F) (v.writes (Elt F) f (ks.map (xpPiece x0))) y = xpOf x0 y := by
  intro ks
  induction ks with
  | nil => intro h; exact absurd h List.not_mem_nil
  | cons j ks ih =>
    intro h
    rw [List.map_cons]
    by_cases hj : (⟨(y 1).val / 256, Nat.div_lt_of_lt_mul (y 1).isLt⟩ : Fin 28) = j
    · subst hj
      refine View.read_writes_cons_unit_of_mem v f _ _ _ y (ix2 (y 0) ⟨(y 1).val % 256, Nat.mod_lt _ (by decide)⟩) rfl ?_
      refine Fin.forall_fin_two.mpr ⟨(Nat.zero_add _).symm, ?_⟩
      exact (Nat.div_add_mod (y 1).val 256).symm
    · refine (View.read_writes_cons_unit_of_not_mem v f _ _ _ y rfl 1 ?_).trans (ih ?_)
      · have : (y 1).val / 256 ≠ j.val := fun e => hj (Fin.ext e)
        show (y 1).val < 256 * j.val ∨ 256 * j.val + 256 ≤ (y 1).val
        omega
      · rcases List.mem_cons.mp h with h | h
        · exact absurd h hj
        · exact h

/-- The body's first condition: the first point of all. -/
abbrev First (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Its second: the column block's first point. -/
abbrev Start (i : grid0.Coords) : Prop :=
  Scalar.cmpi .ne (Scalar.extui (Scalar.cmpi .eq (BitVec.ofNat 32 (i 1).val) 0#32)) 0#32 = 1#1

/-- The permuted activations after the body at a point, -/
def xpAfter (i : grid0.Coords) (x0 : Vec F S2x128x7168 .bf16) (d0 : Vec F S256x7168 .bf16) : Vec F S256x7168 .bf16 :=
  if First i then xpOf x0 else d0
/-- the accumulator before its tile loop, -/
def startAfter (i : grid0.Coords) (x0 : Vec F S2x128x7168 .bf16) (x1 : Vec F S7168x512 .fp8e4m3) (x2 : Vec F S512 .f32) (d1 : Vec F S256x512 .f32) : Vec F S256x512 .f32 :=
  if Start i then k0_pay4 x0 x1 x2 else d1
/-- after it, -/
def accAfter (i : grid0.Coords) (v1 v4 : Elt F .i32) (x0 : Vec F S2x128x7168 .bf16) (x1 : Vec F S7168x512 .fp8e4m3) (x2 : Vec F S512 .f32) (x3 : Vec F S1x1792x512 .i8) (x4 : Vec F S1x896x512 .i8) (x5 : Vec F S1x56x512 .bf16)
    (d0 : Vec F S256x7168 .bf16) (d1 : Vec F S256x512 .f32) : Vec F S256x512 .f32 :=
  if Live i v1 v4 then loopV v1 v4 x3 x4 (xpAfter i x0 d0) (k0_pay5 x5) (startAfter i x0 x1 x2 d1) k0_t1_loop.trips else startAfter i x0 x1 x2 d1
/-- and the output block. -/
def outAfter (i : grid0.Coords) (a : Vec F S256x512 .f32) (d6 : Vec F S256x512 .bf16) : Vec F S256x512 .bf16 :=
  if k0_cond4 i = 1#1 then k0_pay7 a else d6

theorem xp_read {sp sp' : Space} (u : View sig .tc sp' S2x128x7168 .bf16) (v : View sig .tc sp S256x7168 .bf16) (f0 : u.ty.Contents (Elt F)) (f : v.ty.Contents (Elt F)) (i : grid0.Coords)
    {x0 : Vec F S2x128x7168 .bf16} {d0 : Vec F S256x7168 .bf16} (h0 : u.read (Elt F) f0 = x0) (h1 : v.read (Elt F) f = d0) :
    v.read (Elt F) (if hc : First i then v.writes (Elt F) f ((([27, 26, 25, 24, 23, 22, 21, 20, 19, 18, 17, 16, 15, 14, 13, 12, 11, 10, 9, 8, 7, 6, 5, 4, 3, 2, 1, 0] : List (Fin 28))).map (xpPiece (u.read (Elt F) f0))) else f) = xpAfter i x0 d0 := by
  unfold xpAfter
  by_cases h : First i
  · rw [dif_pos h, if_pos h, ← h0]
    exact funext fun y => read_tiles v f _ y _ (by
      generalize (⟨(y 1).val / 256, _⟩ : Fin 28) = k
      revert k; decide)
  · rw [dif_neg h, if_neg h, h1]

/-- A whole-buffer write under a condition. -/
theorem whole_read {sp : Space} {s : Shape} {e : EltTy} (v : View sig .tc sp s e) (f : v.ty.Contents (Elt F)) {off : Fin s.rank → ℕ} (inb : ∀ a, off a + s.size a ≤ s.size a)
    (C : Prop) [Decidable C] {w w' : s.Idx → Elt F e} {d : s.Idx → Elt F e} (hw : w = w') (h1 : v.read (Elt F) f = d) :
    v.read (Elt F) (if hc : C then v.writes (Elt F) f [⟨Rect.unit off s.size inb, w⟩] else f) = if C then w' else d := by
  by_cases h : C
  · rw [dif_pos h, if_pos h, ← hw]; exact read_whole_writes v f inb w []
  · rw [dif_neg h, if_neg h, h1]

theorem pay4_congr {x0 y0 : Vec F S2x128x7168 .bf16} {x1 y1 : Vec F S7168x512 .fp8e4m3} {x2 y2 : Vec F S512 .f32} (h0 : x0 = y0) (h1 : x1 = y1) (h2 : x2 = y2) :
    k0_pay4 x0 x1 x2 = k0_pay4 y0 y1 y2 := by rw [h0, h1, h2]

theorem loopV_congr (v1 v4 : Elt F .i32) {x3 y3 : Vec F S1x1792x512 .i8} {x4 y4 : Vec F S1x896x512 .i8} {xp yp : Vec F S256x7168 .bf16} {sc tc : Vec F S56x2x512 .bf16}
    {A B : Vec F S256x512 .f32} (n : ℕ) (h3 : x3 = y3) (h4 : x4 = y4) (hp : xp = yp) (hs : sc = tc) (hA : A = B) :
    loopV v1 v4 x3 x4 xp sc A n = loopV v1 v4 y3 y4 yp tc B n := by rw [h3, h4, hp, hs, hA]

/-- A load of a whole view. -/
theorem load_full {sp : Space} {s : Shape} {e : EltTy} (v : View sig .tc sp s e) (f : v.ty.Contents (Elt F)) {off : Fin s.rank → ℕ} (inb : ∀ a, off a + s.size a ≤ s.size a)
    {x : s.Idx → Elt F e} (h : v.read (Elt F) f = x) : v.readAt (Elt F) (Rect.unit off s.size inb).toLoadRect f = x :=
  (View.readAt_full (Val := Elt F) v f inb).trans h

/-- What the body holds: the inputs, the output block and the scratch buffers at their contents (the scales' at some), and
    the offsets. -/
def HeldV (c : Dev nD) (arg3 : Memref sig .tc .vmem S2x128x7168 .bf16) (arg4 : Memref sig .tc .vmem S7168x512 .fp8e4m3) (arg5 : Memref sig .tc .vmem S512 .f32) (arg6 : Memref sig .tc .vmem S1x1792x512 .i8) (arg7 : Memref sig .tc .vmem S1x896x512 .i8) (arg8 : Memref sig .tc .vmem S1x56x512 .bf16) (arg9 : Memref sig .tc .vmem S256x512 .bf16) (arg10 : Memref sig .tc .vmem S256x7168 .bf16) (arg11 : Memref sig .tc .vmem S256x512 .f32) (arg12 : Memref sig .tc .vmem S56x2x512 .bf16)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) (d6 : Vec F S256x512 .bf16) (d0 : Vec F S256x7168 .bf16) (d1 : Vec F S256x512 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d6 ∗ owns (c : Thread nD τ) arg10 fullShare d0 ∗ owns (c : Thread nD τ) arg11 fullShare d1 ∗ (∃ d, owns (c : Thread nD τ) arg12 fullShare d) ∗ tbPt c tbM xt)

set_option maxHeartbeats 4000000 in
/-- The body runs, leaving its inputs as they were and its own buffers as stated. -/
theorem body_value (c : Dev nD) (i : grid0.Coords) (arg3 : Memref sig .tc .vmem S2x128x7168 .bf16) (harg3 : arg3.IsWhole) (arg4 : Memref sig .tc .vmem S7168x512 .fp8e4m3) (harg4 : arg4.IsWhole) (arg5 : Memref sig .tc .vmem S512 .f32) (harg5 : arg5.IsWhole) (arg6 : Memref sig .tc .vmem S1x1792x512 .i8) (harg6 : arg6.IsWhole) (arg7 : Memref sig .tc .vmem S1x896x512 .i8) (harg7 : arg7.IsWhole) (arg8 : Memref sig .tc .vmem S1x56x512 .bf16) (harg8 : arg8.IsWhole) (arg9 : Memref sig .tc .vmem S256x512 .bf16) (harg9 : arg9.IsWhole) (arg10 : Memref sig .tc .vmem S256x7168 .bf16) (harg10 : arg10.IsWhole) (arg11 : Memref sig .tc .vmem S256x512 .f32) (harg11 : arg11.IsWhole) (arg12 : Memref sig .tc .vmem S56x2x512 .bf16) (harg12 : arg12.IsWhole)
    (x0 : Vec F S2x128x7168 .bf16) (x1 : Vec F S7168x512 .fp8e4m3) (x2 : Vec F S512 .f32) (x3 : Vec F S1x1792x512 .i8) (x4 : Vec F S1x896x512 .i8) (x5 : Vec F S1x56x512 .bf16) (xt : TbBuf (F := F) c tbM) (d6 : Vec F S256x512 .bf16) (d0 : Vec F S256x7168 .bf16) (d1 : Vec F S256x512 .f32) (E : Set ℕ) :
    HeldV c arg3 arg4 arg5 arg6 arg7 arg8 arg9 arg10 arg11 arg12 x0 x1 x2 x3 x4 x5 xt d6 d0 d1
      ⊢ wp frame (wpE (defs₀ (F := F)) Variants.none c none) E (cc0_base_plus_delta i tbM htbM arg3 harg3 arg4 harg4 arg5 harg5 arg6 harg6 arg7 harg7 arg8 harg8 arg9 harg9 arg10 harg10 arg11 harg11 arg12 harg12)
        (fun _ => HeldV c arg3 arg4 arg5 arg6 arg7 arg8 arg9 arg10 arg11 arg12 x0 x1 x2 x3 x4 x5 xt
          (outAfter i (accAfter i (off1 (F := F) c i xt) (off2 (F := F) c i xt) x0 x1 x2 x3 x4 x5 d0 d1) d6) (xpAfter i x0 d0)
          (accAfter i (off1 (F := F) c i xt) (off2 (F := F) c i xt) x0 x1 x2 x3 x4 x5 d0 d1)) := by
  simp only [cc0_base_plus_delta_eq_skeleton]; unfold cc0_base_plus_delta_skel
  simp only [k0_part1_eq_skeleton, k0_part2_eq_skeleton, k0_part3_eq_skeleton, k0_part4_eq_skeleton, k0_part5_eq_skeleton, k0_part6_eq_skeleton, k0_part7_eq_skeleton]
  unfold HeldV owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hs0, HS0⟩, ⟨%fs1, %hs1, HS1⟩, ⟨%ds2, %fs2, -, HS2⟩, HT0⟩
  by_cases hc2 : Live i (off1 (F := F) c i xt) (off2 (F := F) c i xt)
  · sl_exec (disch := sl_exact hc2)
    sl_step
    have hxp := xp_read arg3.view arg10.view f0 fs0 i hf0 hs0
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      refine whole_read arg9.view f6 _ _ (congrArg k0_pay7 ?_) hf6
      refine load_full arg11.view _ inb_S256x512_S256x512_0_0 ?_
      unfold accAfter; rw [if_pos hc2]
      refine (loop_read c i tbM htbM arg3 harg3 arg4 harg4 arg5 harg5 arg6 harg6 arg7 harg7 arg8 harg8 arg9 harg9 arg10 harg10 arg11 harg11 arg12 harg12 _ _ _ _ _ _ _ _ le_rfl).trans ?_
      exact loopV_congr _ _ _ hf3 hf4 hxp ((read_whole_writes arg12.view _ _ _ _).trans (congrArg k0_pay5 (load_full arg8.view f5 _ hf5))) (whole_read arg11.view fs1 _ _ (pay4_congr (load_full arg3.view f0 _ hf0) (load_full arg4.view f1 _ hf1) (load_full arg5.view f2 _ hf2)) hs1)
    isplitl [HS0]
    · iexists _; isplitr; swap; · iexact HS0
      ipureintro; exact hxp
    isplitl [HS1]
    · iexists _; isplitr; swap; · iexact HS1
      ipureintro
      unfold accAfter; rw [if_pos hc2]
      refine (loop_read c i tbM htbM arg3 harg3 arg4 harg4 arg5 harg5 arg6 harg6 arg7 harg7 arg8 harg8 arg9 harg9 arg10 harg10 arg11 harg11 arg12 harg12 _ _ _ _ _ _ _ _ le_rfl).trans ?_
      exact loopV_congr _ _ _ hf3 hf4 hxp ((read_whole_writes arg12.view _ _ _ _).trans (congrArg k0_pay5 (load_full arg8.view f5 _ hf5))) (whole_read arg11.view fs1 _ _ (pay4_congr (load_full arg3.view f0 _ hf0) (load_full arg4.view f1 _ hf1) (load_full arg5.view f2 _ hf2)) hs1)
    isplitl [HS2]
    · iexists _, _; isplitr; swap; · iexact HS2
      ipureintro; rfl
    iexact HT0
  · sl_exec (disch := sl_exact hc2)
    sl_step
    have hxp := xp_read arg3.view arg10.view f0 fs0 i hf0 hs0
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      refine whole_read arg9.view f6 _ _ (congrArg k0_pay7 ?_) hf6
      refine load_full arg11.view _ inb_S256x512_S256x512_0_0 ?_
      unfold accAfter; rw [if_neg hc2]; exact (whole_read arg11.view fs1 _ _ (pay4_congr (load_full arg3.view f0 _ hf0) (load_full arg4.view f1 _ hf1) (load_full arg5.view f2 _ hf2)) hs1)
    isplitl [HS0]
    · iexists _; isplitr; swap; · iexact HS0
      ipureintro; exact hxp
    isplitl [HS1]
    · iexists _; isplitr; swap; · iexact HS1
      ipureintro
      unfold accAfter; rw [if_neg hc2]; exact (whole_read arg11.view fs1 _ _ (pay4_congr (load_full arg3.view f0 _ hf0) (load_full arg4.view f1 _ hf1) (load_full arg5.view f2 _ hf2)) hs1)
    isplitl [HS2]
    · iexists _, _; isplitr; swap; · iexact HS2
      ipureintro; rfl
    iexact HT0

end Cert.KernelIdeal.Hand

end
-- ==== Proof.ITile.lean ====
module

public import proofs.«01_k».proof.Proof.IWords
public import proofs.«01_k».proof.Proof.IStep
public import Idealize.ShloMosaic.PureOps.Ideal

@[expose] public section

set_option maxRecDepth 16384

/-! One tile's update of the accumulator at an index, over ideal values. -/

noncomputable section

namespace Cert.KernelIdeal.Hand

open Idealize.ShloMosaic
open Cert.KernelIdeal.Gen Cert.Bits4

/-- A four-bit signed value as a number. -/
def num4 (x : BitVec 4) : EReal := ((x.toInt : ℝ) : EReal)

/-- Row `r` is one of the rows from `v1` up to `v4`. -/
def Own (v1 v4 : BitVec 32) (r : ℕ) : Bool := v1.sle (BitVec.ofNat 32 r) && (BitVec.ofNat 32 r).slt v4

/-- The weight of a tile at row `κ` of its permuted order: the selected value times the group's scale. -/
def wt (v38 : Vec Ideal S1x64x512 .i8) (v42 : Vec Ideal S1x32x512 .i8) (v46 v50 : Vec Ideal S1x2x512 .bf16) (c : Fin 512) (κ : Fin 256) : EReal :=
  num4 (pickOf v38 v42 ⟨κ.val % 64, Nat.mod_lt _ (by decide)⟩ c (κ.val / 64)) * (if κ.val % 64 < 32 then v46 (ix3 0 0 c) else v50 (ix3 0 0 c))

/-- The kernel's row mask is `Own`. -/
theorem mask_own (v1 v4 : BitVec 32) (r : ℕ) (X : EReal) :
    Scalar.select (IntOp.andi (IntOp.cmpi .sge (BitVec.ofNat 32 r) v1) (IntOp.cmpi .slt (BitVec.ofNat 32 r) v4)) X 0 = if Own v1 v4 r then X else 0 := by
  have e : IntOp.andi (IntOp.cmpi .sge (BitVec.ofNat 32 r) v1) (IntOp.cmpi .slt (BitVec.ofNat 32 r) v4) = BitVec.ofBool (Own v1 v4 r) := by
    show BitVec.ofBool (v1.sle (BitVec.ofNat 32 r)) &&& BitVec.ofBool ((BitVec.ofNat 32 r).slt v4) = BitVec.ofBool (v1.sle (BitVec.ofNat 32 r) && (BitVec.ofNat 32 r).slt v4)
    cases v1.sle (BitVec.ofNat 32 r) <;> cases (BitVec.ofNat 32 r).slt v4 <;> rfl
  rw [e]
  cases Own v1 v4 r <;> rfl

/-- One weight, from the plane's word. -/
theorem wt_of (v38 : Vec Ideal S1x64x512 .i8) (v42 : Vec Ideal S1x32x512 .i8) (v46 v50 : Vec Ideal S1x2x512 .bf16) (c : Fin 512) (κ : Fin 256)
    (w : BitVec 32) (p q : ℕ) (hq : q < 64) (e : κ.val = 64 * p + q) (h : fld w (q % 8) = pickOf v38 v42 ⟨q, hq⟩ c p) :
    FloatOps.sitofp (F := Ideal) FTy.bf16 (BitVec.setWidth 4 (IntOp.shrui .vector w (IntOp.muli (BitVec.ofNat 32 (q % 8)) 4#32)))
      * (if q < 32 then v46 (ix3 0 0 c) else v50 (ix3 0 0 c)) = wt v38 v42 v46 v50 c κ := by
  have e1 : κ.val % 64 = q := by omega
  have e2 : κ.val / 64 = p := by omega
  rw [field_out w _ (by omega), h]
  unfold wt
  simp only [e1, e2]
  rfl

set_option maxHeartbeats 2000000 in
/-- The update at row `r`, column `c`: the tile's part of the row's product, if the row is the tenant's. -/
theorem tileV_apply (v1 v4 : BitVec 32) (v38 : Vec Ideal S1x64x512 .i8) (v42 : Vec Ideal S1x32x512 .i8) (v46 v50 : Vec Ideal S1x2x512 .bf16)
    (v233 : Vec Ideal S256x256 .bf16) (A : Vec Ideal S256x512 .f32) (r : Fin 256) (c : Fin 512) (h : ∀ q, Asc (nibOf v42 q c)) :
    tileV v1 v4 v38 v42 v46 v50 v233 A (ix2 r c) = A (ix2 r c) + if Own v1 v4 r.val then ∑ κ : Fin 256, v233 (ix2 r κ) * wt v38 v42 v46 v50 c κ else 0 := by
  unfold tileV
  pointwise [k0_pay6]
  pointwise [k0_pay60, k0_pay61, k0_pay62, k0_pay63, k0_pay59, k0_pay40, k0_pay41, k0_pay42, k0_pay43]
  refine congrArg (A (ix2 r c) + ·) ((mask_own v1 v4 r.val _).trans ?_)
  refine congrArg (fun X => if Own v1 v4 r.val then X else (0 : EReal)) (Finset.sum_congr rfl fun x _ => congrArg (v233 (ix2 r x) * ·) ?_)
  have hx := x.isLt
  by_cases h0 : x.val < 64
  · rw [dif_pos h0]
    exact wt_of v38 v42 v46 v50 c x _ 0 x.val h0 (by omega) (fld_planes v38 v42 ⟨x.val, h0⟩ c (h _) _ rfl).1
  rw [dif_neg h0]
  by_cases h1 : x.val - 64 < 64
  · rw [dif_pos h1]
    exact wt_of v38 v42 v46 v50 c x _ 1 (x.val - 64) h1 (by omega) (fld_planes v38 v42 ⟨x.val - 64, h1⟩ c (h _) _ rfl).2.1
  rw [dif_neg h1]
  by_cases h2 : x.val - 64 - 64 < 64
  · rw [dif_pos h2]
    exact wt_of v38 v42 v46 v50 c x _ 2 (x.val - 64 - 64) h2 (by omega) (fld_planes v38 v42 ⟨x.val - 64 - 64, h2⟩ c (h _) _ rfl).2.2.1
  rw [dif_neg h2]
  have h3 : x.val - 64 - 64 - 64 < 64 := by omega
  exact wt_of v38 v42 v46 v50 c x _ 3 (x.val - 64 - 64 - 64) h3 (by omega) (fld_planes v38 v42 ⟨x.val - 64 - 64 - 64, h3⟩ c (h _) _ rfl).2.2.2

/-- The row the permutation matrix has its one in, at column `c`, as the kernel computes it. -/
def permW (c : ℕ) : BitVec 32 :=
  (IntOp.addi
                (IntOp.muli (4#32)
                  (Scalar.select
                    (IntOp.andi
                      (IntOp.xori
                        (IntOp.cmpi CmpIPredicate.slt
                          (IntOp.remsi ArithUnit.vector (BitVec.ofNat 32 c)
                            (Scalar.select (Scalar.cmpi CmpIPredicate.eq 64#32 0#32) 1#32 64#32))
                          0#32)
                        (Scalar.cmpi CmpIPredicate.slt
                          (Scalar.select (Scalar.cmpi CmpIPredicate.eq 64#32 0#32) 1#32 64#32) 0#32))
                      (IntOp.cmpi CmpIPredicate.ne
                        (IntOp.remsi ArithUnit.vector (BitVec.ofNat 32 c)
                          (Scalar.select (Scalar.cmpi CmpIPredicate.eq 64#32 0#32) 1#32 64#32))
                        0#32))
                    (IntOp.addi
                      (IntOp.remsi ArithUnit.vector (BitVec.ofNat 32 c)
                        (Scalar.select (Scalar.cmpi CmpIPredicate.eq 64#32 0#32) 1#32 64#32))
                      (Scalar.select (Scalar.cmpi CmpIPredicate.eq 64#32 0#32) 1#32 64#32))
                    (IntOp.remsi ArithUnit.vector (BitVec.ofNat 32 c)
                      (Scalar.select (Scalar.cmpi CmpIPredicate.eq 64#32 0#32) 1#32 64#32))))
                (Scalar.select
                  (IntOp.andi
                    (IntOp.cmpi CmpIPredicate.ne
                      (IntOp.subi (BitVec.setWidth 32 (IntOp.cmpi CmpIPredicate.sgt (BitVec.ofNat 32 c) 0#32))
                        (BitVec.setWidth 32 (IntOp.cmpi CmpIPredicate.slt (BitVec.ofNat 32 c) 0#32)))
                      (Scalar.subi (Scalar.extui (Scalar.cmpi CmpIPredicate.sgt 64#32 0#32))
                        (Scalar.extui (Scalar.cmpi CmpIPredicate.slt 64#32 0#32))))
                    (IntOp.cmpi CmpIPredicate.ne (IntOp.remsi ArithUnit.vector (BitVec.ofNat 32 c) 64#32) 0#32))
                  (IntOp.subi (IntOp.divsi ArithUnit.vector (BitVec.ofNat 32 c) 64#32) 1#32)
                  (IntOp.divsi ArithUnit.vector (BitVec.ofNat 32 c) 64#32)))

set_option maxRecDepth 65536 in
theorem permW_eq : ∀ c : Fin 256, permW c.val = BitVec.ofNat 32 (4 * (c.val % 64) + c.val / 64) := by
  decide +kernel

/-- An entry of the permutation matrix: one where the words agree, zero elsewhere. -/
theorem perm_entry (x c : Fin 256) :
    FloatOps.sitofp (F := Ideal) FTy.f32 (BitVec.setWidth 32 (IntOp.cmpi CmpIPredicate.eq (BitVec.ofNat 32 x.val) (permW c.val)))
      = if x.val = 4 * (c.val % 64) + c.val / 64 then (1 : EReal) else 0 := by
  rw [permW_eq]
  have hx := x.isLt
  have hc := c.isLt
  show (((BitVec.setWidth 32 (BitVec.ofBool (BitVec.ofNat 32 x.val == BitVec.ofNat 32 (4 * (c.val % 64) + c.val / 64)))).toInt : ℝ) : EReal) = _
  by_cases h : x.val = 4 * (c.val % 64) + c.val / 64
  · rw [if_pos h, ← h, beq_self_eq_true]
    have : (BitVec.setWidth 32 (BitVec.ofBool true)).toInt = 1 := by decide
    rw [this]; norm_num
  · rw [if_neg h]
    have hne : (BitVec.ofNat 32 x.val == BitVec.ofNat 32 (4 * (c.val % 64) + c.val / 64)) = false := by
      rw [beq_eq_false_iff_ne]
      intro e
      have := congrArg BitVec.toNat e
      simp only [BitVec.toNat_ofNat] at this
      omega
    rw [hne]
    have : (BitVec.setWidth 32 (BitVec.ofBool false)).toInt = 0 := by decide
    rw [this]; norm_num

/-- One tile's permutation at an index: plane `p`, place `q` holds column `4 q + p`. -/
theorem permTile_apply (v : Vec Ideal S2x128x256 .bf16) (r : Fin 256) (c : Fin 256) :
    permTile v (ix2 r c) = v (ix3 ⟨r.val / 128, by omega⟩ ⟨r.val % 128, by omega⟩ ⟨4 * (c.val % 64) + c.val / 64, by omega⟩) := by
  unfold permTile
  pointwise [k0_pay2, k0_pay9, k0_pay8]
  refine (Finset.sum_congr rfl fun x _ => congrArg (v (ix3 ⟨r.val / 128, by omega⟩ ⟨r.val % 128, by omega⟩ x) * ·) (perm_entry x c)).trans ?_
  rw [Finset.sum_eq_single (⟨4 * (c.val % 64) + c.val / 64, by omega⟩ : Fin 256)]
  · rw [if_pos rfl, mul_one]
  · intro b _ hb
    rw [if_neg (fun e => hb (Fin.ext e)), mul_zero]
  · intro h; exact absurd (Finset.mem_univ _) h

end Cert.KernelIdeal.Hand

end
-- ==== Proof.ITrip.lean ====
module

public import proofs.«01_k».proof.Proof.ITile

@[expose] public section

set_option maxRecDepth 16384

/-! The tile loop at an index, over ideal values: the sum of all its tiles is the row's product with the decoded weights in
    their natural order. -/

noncomputable section

namespace Cert.KernelIdeal.Hand

open Idealize.ShloMosaic
open Cert.KernelIdeal.Gen Cert.Bits4

/-- There are 28 tiles. -/
theorem trips28 : k0_t1_loop.trips = 28 := by decide +kernel

/-- Where each tile's rows begin. -/
theorem off3_eq : ∀ k : Fin k0_t1_loop.trips, k0_off3 k = ![0, 64 * k.val, 0] := by decide +kernel
theorem off4_eq : ∀ k : Fin k0_t1_loop.trips, k0_off4 k = ![0, 32 * k.val, 0] := by decide +kernel
theorem off5_eq : ∀ k : Fin k0_t1_loop.trips, k0_off5 k = ![2 * k.val, 0, 0] := by decide +kernel
theorem off6_eq : ∀ k : Fin k0_t1_loop.trips, k0_off6 k = ![2 * k.val + 1, 0, 0] := by decide +kernel
theorem off7_eq : ∀ k : Fin k0_t1_loop.trips, k0_off7 k = ![0, 256 * k.val] := by decide +kernel

/-- A rank-3 block read at an index. -/
theorem ld3 {α : Type} {a b c a' b' c' : ℕ} (x : (⟨3, ![a, b, c]⟩ : Shape).Idx → α) (off : Fin 3 → ℕ) (n0 n1 n2 : ℕ) (e : off = ![n0, n1, n2])
    (inb : ∀ d, off d + (⟨3, ![a', b', c']⟩ : Shape).size d ≤ (⟨3, ![a, b, c]⟩ : Shape).size d) (i : Fin a') (j : Fin b') (k : Fin c')
    (i' : Fin a) (j' : Fin b) (k' : Fin c) (hi : i'.val = n0 + i.val) (hj : j'.val = n1 + j.val) (hk : k'.val = n2 + k.val) :
    x ((Rect.unit (s := ⟨3, ![a, b, c]⟩) off (⟨3, ![a', b', c']⟩ : Shape).size inb).emb (ix3 i j k)) = x (ix3 i' j' k') := by
  subst e
  congr 1
  funext d
  apply Fin.ext
  match d with
  | ⟨0, _⟩ => show n0 + 1 * i.val = i'.val; omega
  | ⟨1, _⟩ => show n1 + 1 * j.val = j'.val; omega
  | ⟨2, _⟩ => show n2 + 1 * k.val = k'.val; omega

/-- A rank-2 block read at an index. -/
theorem ld2 {α : Type} {a b a' b' : ℕ} (x : (⟨2, ![a, b]⟩ : Shape).Idx → α) (off : Fin 2 → ℕ) (n0 n1 : ℕ) (e : off = ![n0, n1])
    (inb : ∀ d, off d + (⟨2, ![a', b']⟩ : Shape).size d ≤ (⟨2, ![a, b]⟩ : Shape).size d) (i : Fin a') (j : Fin b')
    (i' : Fin a) (j' : Fin b) (hi : i'.val = n0 + i.val) (hj : j'.val = n1 + j.val) :
    x ((Rect.unit (s := ⟨2, ![a, b]⟩) off (⟨2, ![a', b']⟩ : Shape).size inb).emb (ix2 i j)) = x (ix2 i' j') := by
  subst e
  congr 1
  funext d
  apply Fin.ext
  match d with
  | ⟨0, _⟩ => show n0 + 1 * i.val = i'.val; omega
  | ⟨1, _⟩ => show n1 + 1 * j.val = j'.val; omega

/-- The weight at row `κ`, column `c` of a column block: the value the indices select, times the group's scale. -/
def wK (x3 : Vec Ideal S1x1792x512 .i8) (x4 : Vec Ideal S1x896x512 .i8) (x5 : Vec Ideal S1x56x512 .bf16) (c : Fin 512) (κ : Fin 7168) : EReal :=
  num4 (pick (lo4 (x3 (ix3 0 ⟨κ.val / 4, by omega⟩ c))) (hi4 (x3 (ix3 0 ⟨κ.val / 4, by omega⟩ c)))
      (half4 (x4 (ix3 0 ⟨κ.val / 8, by omega⟩ c)) (κ.val / 4 % 2)) (κ.val % 4))
    * x5 (ix3 0 ⟨κ.val / 128, by omega⟩ c)

/-- The natural row of tile `k`'s permuted row `κ`. -/
def nat (k : ℕ) (hk : k < 28) (κ : Fin 256) : Fin 7168 := ⟨256 * k + 4 * (κ.val % 64) + κ.val / 64, by omega⟩

/-- Column `c`'s index nibbles ascend. -/
def AscCol (x4 : Vec Ideal S1x896x512 .i8) (c : Fin 512) : Prop := ∀ q : Fin 1792, Asc (half4 (x4 (ix3 0 ⟨q.val / 2, by omega⟩ c)) (q.val % 2))

/-- The activations permuted, at an index. -/
theorem xpOf_apply (x0 : Vec Ideal S2x128x7168 .bf16) (k : ℕ) (hk : k < 28) (r κ : Fin 256) (j : Fin 7168) (hj : j.val = 256 * k + κ.val) :
    xpOf x0 (ix2 r j) = x0 (ix3 ⟨r.val / 128, by omega⟩ ⟨r.val % 128, by omega⟩ (nat k hk κ)) := by
  have e1 : j.val / 256 = k := by omega
  have e2 : j.val % 256 = κ.val := by omega
  refine (permTile_apply _ r ⟨j.val % 256, Nat.mod_lt _ (by decide)⟩).trans ?_
  refine ld3 x0 _ 0 0 (256 * (j.val / 256)) rfl _ _ _ _ _ _ _ (by simp) (by simp) ?_
  show 256 * k + 4 * (κ.val % 64) + κ.val / 64 = 256 * (j.val / 256) + (4 * (j.val % 256 % 64) + j.val % 256 / 64)
  rw [e1, e2]; omega

/-- The duplicated scales at an index. -/
theorem pay5_apply (x5 : Vec Ideal S1x56x512 .bf16) (r : Fin 56) (b : Fin 2) (c : Fin 512) : k0_pay5 x5 (ix3 r b c) = x5 (ix3 0 r c) := by
  pointwise [k0_pay5]
  exact ite_self _

set_option maxHeartbeats 1000000 in
/-- Trip `k` at row `r`, column `c`. -/
theorem tripV_apply (v1 v4 : BitVec 32) (x0 : Vec Ideal S2x128x7168 .bf16) (x3 : Vec Ideal S1x1792x512 .i8) (x4 : Vec Ideal S1x896x512 .i8) (x5 : Vec Ideal S1x56x512 .bf16)
    (A : Vec Ideal S256x512 .f32) (k : Fin k0_t1_loop.trips) (hk : k.val < 28) (r : Fin 256) (c : Fin 512) (h : AscCol x4 c) :
    tripV v1 v4 x3 x4 (xpOf x0) (k0_pay5 x5) k A (ix2 r c)
      = A (ix2 r c) + if Own v1 v4 r.val then ∑ κ : Fin 256, x0 (ix3 ⟨r.val / 128, by omega⟩ ⟨r.val % 128, by omega⟩ (nat k.val hk κ)) * wK x3 x4 x5 c (nat k.val hk κ) else 0 := by
  have h3 : ∀ (q : Fin 64) (q' : Fin 1792), q'.val = 64 * k.val + q.val →
      View.ld x3 (Rect.unit (s := S1x1792x512) (k0_off3 k) S1x64x512.size (k0_off3_inb k)) (ix3 0 q c) = x3 (ix3 0 q' c) := fun q q' e =>
    ld3 x3 _ 0 (64 * k.val) 0 (off3_eq k) _ _ _ _ _ _ _ (by simp) e (by simp)
  have h4 : ∀ (q : Fin 32) (q' : Fin 896), q'.val = 32 * k.val + q.val →
      View.ld x4 (Rect.unit (s := S1x896x512) (k0_off4 k) S1x32x512.size (k0_off4_inb k)) (ix3 0 q c) = x4 (ix3 0 q' c) := fun q q' e =>
    ld3 x4 _ 0 (32 * k.val) 0 (off4_eq k) _ _ _ _ _ _ _ (by simp) e (by simp)
  have h5 : View.ld (k0_pay5 x5) (Rect.unit (s := S56x2x512) (k0_off5 k) S1x2x512.size (k0_off5_inb k)) (ix3 0 0 c) = x5 (ix3 0 ⟨2 * k.val, by omega⟩ c) :=
    (ld3 (k0_pay5 x5) _ (2 * k.val) 0 0 (off5_eq k) _ _ _ _ ⟨2 * k.val, by omega⟩ 0 c (by simp) (by simp) (by simp)).trans (pay5_apply _ _ _ _)
  have h6 : View.ld (k0_pay5 x5) (Rect.unit (s := S56x2x512) (k0_off6 k) S1x2x512.size (k0_off6_inb k)) (ix3 0 0 c) = x5 (ix3 0 ⟨2 * k.val + 1, by omega⟩ c) :=
    (ld3 (k0_pay5 x5) _ (2 * k.val + 1) 0 0 (off6_eq k) _ _ _ _ ⟨2 * k.val + 1, by omega⟩ 0 c (by simp) (by simp) (by simp)).trans (pay5_apply _ _ _ _)
  have h7 : ∀ κ : Fin 256, View.ld (xpOf x0) (Rect.unit (s := S256x7168) (k0_off7 k) S256x256.size (k0_off7_inb k)) (ix2 r κ)
      = x0 (ix3 ⟨r.val / 128, by omega⟩ ⟨r.val % 128, by omega⟩ (nat k.val hk κ)) := fun κ =>
    (ld2 (xpOf x0) _ 0 (256 * k.val) (off7_eq k) _ _ _ r ⟨256 * k.val + κ.val, by omega⟩ (by simp) rfl).trans (xpOf_apply x0 k.val hk r κ _ rfl)
  have hn : ∀ q : Fin 64, nibOf (View.ld x4 (Rect.unit (s := S1x896x512) (k0_off4 k) S1x32x512.size (k0_off4_inb k))) q c
      = half4 (x4 (ix3 0 ⟨(64 * k.val + q.val) / 2, by omega⟩ c)) ((64 * k.val + q.val) % 2) := fun q => by
    unfold nibOf
    rw [h4 _ ⟨(64 * k.val + q.val) / 2, by omega⟩ (by show (64 * k.val + q.val) / 2 = 32 * k.val + q.val / 2; omega)]
    rw [show (64 * k.val + q.val) % 2 = q.val % 2 from by omega]
  unfold tripV
  rw [tileV_apply _ _ _ _ _ _ _ _ _ _ (fun q => by rw [hn q]; exact h ⟨64 * k.val + q.val, by omega⟩)]
  refine congrArg (A (ix2 r c) + ·) (congrArg (fun X => if Own v1 v4 r.val then X else (0 : EReal)) (Finset.sum_congr rfl fun κ _ => ?_))
  rw [h7 κ]
  refine congrArg (x0 (ix3 ⟨r.val / 128, by omega⟩ ⟨r.val % 128, by omega⟩ (nat k.val hk κ)) * ·) ?_
  have hκ := κ.isLt
  unfold wt wK pickOf
  rw [hn, h5, h6, h3 _ ⟨(nat k.val hk κ).val / 4, by omega⟩ (by show (256 * k.val + 4 * (κ.val % 64) + κ.val / 64) / 4 = 64 * k.val + κ.val % 64; omega)]
  have e1 : (nat k.val hk κ).val / 4 = 64 * k.val + κ.val % 64 := by show (256 * k.val + 4 * (κ.val % 64) + κ.val / 64) / 4 = _; omega
  have e8 : (64 * k.val + κ.val % 64) / 2 = (nat k.val hk κ).val / 8 := by show _ = (256 * k.val + 4 * (κ.val % 64) + κ.val / 64) / 8; omega
  have e2 : (64 * k.val + κ.val % 64) % 2 = (nat k.val hk κ).val / 4 % 2 := by rw [e1]
  have e4 : κ.val / 64 = (nat k.val hk κ).val % 4 := by show _ = (256 * k.val + 4 * (κ.val % 64) + κ.val / 64) % 4; omega
  simp only [e8, e2, e4]
  refine congrArg (_ * ·) ?_
  by_cases hq : κ.val % 64 < 32
  · rw [if_pos hq]
    congr 2; apply Fin.ext
    show 2 * k.val = (256 * k.val + 4 * (κ.val % 64) + κ.val / 64) / 128
    omega
  · rw [if_neg hq]
    congr 2; apply Fin.ext
    show 2 * k.val + 1 = (256 * k.val + 4 * (κ.val % 64) + κ.val / 64) / 128
    omega

/-- Place and row determine each other. -/
theorem place_inj {k k' κ κ' : ℕ} (h : κ < 256) (h' : κ' < 256) (e : 256 * k + 4 * (κ % 64) + κ / 64 = 256 * k' + 4 * (κ' % 64) + κ' / 64) : k = k' ∧ κ = κ' := by
  constructor <;> omega
theorem place_surj (j : ℕ) : 256 * (j / 256) + 4 * ((64 * (j % 4) + j % 256 / 4) % 64) + (64 * (j % 4) + j % 256 / 4) / 64 = j := by
  have h1 : (64 * (j % 4) + j % 256 / 4) % 64 = j % 256 / 4 := by omega
  have h2 : (64 * (j % 4) + j % 256 / 4) / 64 = j % 4 := by omega
  rw [h1, h2]
  omega

/-- The tiles' rows are all the rows, each once. -/
theorem nat_bijective : Function.Bijective (fun p : Fin 28 × Fin 256 => nat p.1.val p.1.isLt p.2) := by
  refine ⟨fun p p' e => ?_, fun j => ⟨(⟨j.val / 256, by omega⟩, ⟨64 * (j.val % 4) + j.val % 256 / 4, by omega⟩), Fin.ext (place_surj j.val)⟩⟩
  have h := place_inj p.2.isLt p'.2.isLt (Fin.ext_iff.mp e)
  exact Prod.ext (Fin.ext h.1) (Fin.ext h.2)

/-- The sum over tiles and their rows is the sum over all rows. -/
theorem sum_tiles (f : Fin 7168 → EReal) : ∑ k : Fin 28, ∑ κ : Fin 256, f (nat k.val k.isLt κ) = ∑ j : Fin 7168, f j := by
  rw [← Fintype.sum_prod_type' (f := fun (k : Fin 28) (κ : Fin 256) => f (nat k.val k.isLt κ))]
  exact nat_bijective.sum_comp f

/-- The accumulator after `k` trips. -/
theorem loopV_part (v1 v4 : BitVec 32) (x0 : Vec Ideal S2x128x7168 .bf16) (x3 : Vec Ideal S1x1792x512 .i8) (x4 : Vec Ideal S1x896x512 .i8) (x5 : Vec Ideal S1x56x512 .bf16)
    (A : Vec Ideal S256x512 .f32) (r : Fin 256) (c : Fin 512) (h : AscCol x4 c) (k : ℕ) (hk : k ≤ 28) :
    loopV v1 v4 x3 x4 (xpOf x0) (k0_pay5 x5) A k (ix2 r c)
      = A (ix2 r c) + if Own v1 v4 r.val then ∑ k' : Fin k, ∑ κ : Fin 256, x0 (ix3 ⟨r.val / 128, by omega⟩ ⟨r.val % 128, by omega⟩ (nat k'.val (by omega) κ)) * wK x3 x4 x5 c (nat k'.val (by omega) κ) else 0 := by
  induction k with
  | zero => simp [loopV]
  | succ k ih =>
    rw [loopV, dif_pos (show k < k0_t1_loop.trips by rw [trips28]; omega), tripV_apply v1 v4 x0 x3 x4 x5 _ _ (by show k < 28; omega) r c h, ih (by omega)]
    by_cases ho : Own v1 v4 r.val = true
    · simp only [if_pos ho]
      rw [add_assoc]
      exact congrArg (A (ix2 r c) + ·) (Fin.sum_univ_castSucc (n := k) (fun k' : Fin (k + 1) => ∑ κ : Fin 256, x0 (ix3 ⟨r.val / 128, by omega⟩ ⟨r.val % 128, by omega⟩ (nat k'.val (by omega) κ)) * wK x3 x4 x5 c (nat k'.val (by omega) κ))).symm
    · simp only [if_neg ho, add_zero]

/-- One tenant's part of the output at row `r`, column `c`. -/
def contrib (v1 v4 : BitVec 32) (x0 : Vec Ideal S2x128x7168 .bf16) (x3 : Vec Ideal S1x1792x512 .i8) (x4 : Vec Ideal S1x896x512 .i8) (x5 : Vec Ideal S1x56x512 .bf16) (r : Fin 256) (c : Fin 512) : EReal :=
  if Own v1 v4 r.val then ∑ j : Fin 7168, x0 (ix3 ⟨r.val / 128, by omega⟩ ⟨r.val % 128, by omega⟩ j) * wK x3 x4 x5 c j else 0

/-- The whole tile loop adds the tenant's part. -/
theorem loopV_apply (v1 v4 : BitVec 32) (x0 : Vec Ideal S2x128x7168 .bf16) (x3 : Vec Ideal S1x1792x512 .i8) (x4 : Vec Ideal S1x896x512 .i8) (x5 : Vec Ideal S1x56x512 .bf16)
    (A : Vec Ideal S256x512 .f32) (r : Fin 256) (c : Fin 512) (h : AscCol x4 c) :
    loopV v1 v4 x3 x4 (xpOf x0) (k0_pay5 x5) A k0_t1_loop.trips (ix2 r c) = A (ix2 r c) + contrib v1 v4 x0 x3 x4 x5 r c := by
  rw [trips28, loopV_part v1 v4 x0 x3 x4 x5 A r c h 28 le_rfl]
  unfold contrib
  rw [← sum_tiles]

/-- A tenant without rows owns none. -/
theorem own_of_not_live (i : grid0.Coords) (v1 v4 : BitVec 32) (h : ¬ Live i v1 v4) (r : ℕ) : Own v1 v4 r = false := by
  unfold Own
  rw [Bool.and_eq_false_iff]
  by_contra hc
  rw [not_or] at hc
  apply h
  have h1 : v1.sle (BitVec.ofNat 32 r) = true := by simpa using hc.1
  have h2 : (BitVec.ofNat 32 r).slt v4 = true := by simpa using hc.2
  have h3 : v1.slt v4 = true := by
    rw [BitVec.slt_iff_toInt_lt] at h2 ⊢
    rw [BitVec.sle_iff_toInt_le] at h1
    omega
  have h4 : Scalar.cmpi .sgt v4 v1 = 1#1 := by
    show BitVec.ofBool (v1.slt v4) = 1#1
    rw [h3]; rfl
  show (Scalar.cmpi .ne (Scalar.extui (Scalar.cmpi .sgt v4 v1)) 0#32) = 1#1
  rw [h4]
  decide

/-- The accumulator after the body at row `r`, column `c`. -/
theorem accAfter_apply (i : grid0.Coords) (v1 v4 : BitVec 32) (x0 : Vec Ideal S2x128x7168 .bf16) (x1 : Vec Ideal S7168x512 .fp8e4m3) (x2 : Vec Ideal S512 .f32) (x3 : Vec Ideal S1x1792x512 .i8) (x4 : Vec Ideal S1x896x512 .i8) (x5 : Vec Ideal S1x56x512 .bf16)
    (d0 : Vec Ideal S256x7168 .bf16) (d1 : Vec Ideal S256x512 .f32) (hd : xpAfter i x0 d0 = xpOf x0) (r : Fin 256) (c : Fin 512) (h : AscCol x4 c) :
    accAfter i v1 v4 x0 x1 x2 x3 x4 x5 d0 d1 (ix2 r c) = startAfter i x0 x1 x2 d1 (ix2 r c) + contrib v1 v4 x0 x3 x4 x5 r c := by
  unfold accAfter
  rw [hd]
  by_cases hl : Live i v1 v4
  · rw [if_pos hl, loopV_apply v1 v4 x0 x3 x4 x5 _ r c h]
  · rw [if_neg hl]
    unfold contrib
    rw [own_of_not_live i v1 v4 hl]
    simp

/-- The accumulator's start at row `r`, column `c`: the base product, scaled. -/
theorem pay4_apply (x0 : Vec Ideal S2x128x7168 .bf16) (x1 : Vec Ideal S7168x512 .fp8e4m3) (x2 : Vec Ideal S512 .f32) (r : Fin 256) (c : Fin 512) :
    k0_pay4 x0 x1 x2 (ix2 r c) = (∑ j : Fin 7168, x0 (ix3 ⟨r.val / 128, by omega⟩ ⟨r.val % 128, by omega⟩ j) * x1 (ix2 j c)) * x2 (ix1 c) := by
  pointwise [k0_pay4]

/-- The output block is the accumulator. -/
theorem pay7_apply (a : Vec Ideal S256x512 .f32) (r : Fin 256) (c : Fin 512) : k0_pay7 a (ix2 r c) = a (ix2 r c) := by
  pointwise [k0_pay7]

end Cert.KernelIdeal.Hand

end
-- ==== Proof.Spec.lean ====
module

public import proofs.«01_k».proof.Proof.ITrip

@[expose] public section

set_option maxRecDepth 16384

/-! What both programs compute, element by element, as a function of the argument arrays. -/

noncomputable section

namespace Cert.Spec

open Idealize.ShloMosaic
open Cert.KernelIdeal Cert.KernelIdeal.Gen Cert.KernelIdeal.Hand Cert.Bits4

/-- The base product at row `r`, column `o`, scaled. -/
def base (x : Vec Ideal S2x128x7168 .bf16) (w : Vec Ideal S7168x2880 .fp8e4m3) (s : Vec Ideal S2880 .f32) (r : Fin 256) (o : Fin 2880) : EReal :=
  (∑ j : Fin 7168, x (ix3 ⟨r.val / 128, by omega⟩ ⟨r.val % 128, by omega⟩ j) * w (ix2 j o)) * s (ix1 o)

/-- Tenant `t`'s weight at row `κ`, column `o`: of each four rows the two the index byte names hold the value byte's two
    nibbles, times the scale of the group of 128 rows. -/
def wgt (va : Vec Ideal S11x1792x2880 .i8) (ib : Vec Ideal S11x896x2880 .i8) (ds : Vec Ideal S11x56x2880 .bf16) (t : Fin 11) (o : Fin 2880) (κ : Fin 7168) : EReal :=
  num4 (pick (lo4 (va (ix3 t ⟨κ.val / 4, by omega⟩ o))) (hi4 (va (ix3 t ⟨κ.val / 4, by omega⟩ o)))
      (half4 (ib (ix3 t ⟨κ.val / 8, by omega⟩ o)) (κ.val / 4 % 2)) (κ.val % 4))
    * ds (ix3 t ⟨κ.val / 128, by omega⟩ o)

/-- Tenant `t`'s part of the output. -/
def part (x : Vec Ideal S2x128x7168 .bf16) (va : Vec Ideal S11x1792x2880 .i8) (ib : Vec Ideal S11x896x2880 .i8) (ds : Vec Ideal S11x56x2880 .bf16) (off : Vec Ideal S12 .i32)
    (t : Fin 11) (r : Fin 256) (o : Fin 2880) : EReal :=
  if Own (off (ix1 t.castSucc)) (off (ix1 t.succ)) r.val then ∑ j : Fin 7168, x (ix3 ⟨r.val / 128, by omega⟩ ⟨r.val % 128, by omega⟩ j) * wgt va ib ds t o j else 0

/-- The base term and the first `n` tenants' parts. -/
def upto (x : Vec Ideal S2x128x7168 .bf16) (w : Vec Ideal S7168x2880 .fp8e4m3) (s : Vec Ideal S2880 .f32) (va : Vec Ideal S11x1792x2880 .i8) (ib : Vec Ideal S11x896x2880 .i8)
    (ds : Vec Ideal S11x56x2880 .bf16) (off : Vec Ideal S12 .i32) (r : Fin 256) (o : Fin 2880) : ℕ → EReal
  | 0 => base x w s r o
  | n + 1 => upto x w s va ib ds off r o n + if h : n < 11 then part x va ib ds off ⟨n, h⟩ r o else 0

theorem upto_succ (x : Vec Ideal S2x128x7168 .bf16) (w : Vec Ideal S7168x2880 .fp8e4m3) (s : Vec Ideal S2880 .f32) (va : Vec Ideal S11x1792x2880 .i8) (ib : Vec Ideal S11x896x2880 .i8)
    (ds : Vec Ideal S11x56x2880 .bf16) (off : Vec Ideal S12 .i32) (r : Fin 256) (o : Fin 2880) (n : Fin 11) :
    upto x w s va ib ds off r o (n.val + 1) = upto x w s va ib ds off r o n.val + part x va ib ds off n r o := by
  show upto x w s va ib ds off r o n.val + (if h : n.val < 11 then part x va ib ds off ⟨n.val, h⟩ r o else 0) = _
  rw [dif_pos n.isLt]

/-- The output: the base term and all the tenants' parts. -/
def out (x : Vec Ideal S2x128x7168 .bf16) (w : Vec Ideal S7168x2880 .fp8e4m3) (s : Vec Ideal S2880 .f32) (va : Vec Ideal S11x1792x2880 .i8) (ib : Vec Ideal S11x896x2880 .i8)
    (ds : Vec Ideal S11x56x2880 .bf16) (off : Vec Ideal S12 .i32) (r : Fin 256) (o : Fin 2880) : EReal :=
  base x w s r o + ∑ t : Fin 11, part x va ib ds off t r o

theorem upto_eq (x : Vec Ideal S2x128x7168 .bf16) (w : Vec Ideal S7168x2880 .fp8e4m3) (s : Vec Ideal S2880 .f32) (va : Vec Ideal S11x1792x2880 .i8) (ib : Vec Ideal S11x896x2880 .i8)
    (ds : Vec Ideal S11x56x2880 .bf16) (off : Vec Ideal S12 .i32) (r : Fin 256) (o : Fin 2880) (n : ℕ) (hn : n ≤ 11) :
    upto x w s va ib ds off r o n = base x w s r o + ∑ t : Fin n, part x va ib ds off ⟨t.val, by omega⟩ r o := by
  induction n with
  | zero => simp [upto]
  | succ n ih =>
    rw [upto, ih (by omega), dif_pos (show n < 11 by omega), add_assoc]
    exact congrArg (base x w s r o + ·) (Fin.sum_univ_castSucc (n := n) (fun t : Fin (n + 1) => part x va ib ds off ⟨t.val, by omega⟩ r o)).symm

/-- After all eleven tenants the accumulation is the output. -/
theorem upto_out (x : Vec Ideal S2x128x7168 .bf16) (w : Vec Ideal S7168x2880 .fp8e4m3) (s : Vec Ideal S2880 .f32) (va : Vec Ideal S11x1792x2880 .i8) (ib : Vec Ideal S11x896x2880 .i8)
    (ds : Vec Ideal S11x56x2880 .bf16) (off : Vec Ideal S12 .i32) (r : Fin 256) (o : Fin 2880) :
    upto x w s va ib ds off r o 11 = out x w s va ib ds off r o :=
  upto_eq x w s va ib ds off r o 11 le_rfl

/-- In every index byte both nibbles ascend. -/
def AscAll (ib : Vec Ideal S11x896x2880 .i8) : Prop :=
  ∀ (t : Fin 11) (o : Fin 2880) (q : Fin 1792), Asc (half4 (ib (ix3 t ⟨q.val / 2, by omega⟩ o)) (q.val % 2))

end Cert.Spec

end
-- ==== Proof.IBlocks.lean ====
module

public import proofs.«01_k».proof.Proof.Spec
public import Idealize.ShloMosaic.Lib.Pipeline.ValueKit
public import Idealize.ShloMosaic.Lib.Pipeline.Covers

@[expose] public section

set_option maxRecDepth 16384

/-! What the pipeline's staged blocks hold at an index, and what one point of the grid does to the accumulator. -/

noncomputable section

namespace Cert.KernelIdeal.Hand

open Idealize.ShloMosaic Idealize.ShloMosaic.TcCoe
open Cert.KernelIdeal.Gen Cert.Bits4 Cert.Spec

variable (m : (ℓ : Loc nD τ sig) → Buf (Elt Ideal) ℓ)

/-- Where each window's block lies at each point. -/
theorem ix_0 : ∀ t : Fin grid0.N, cc0_transform_0 (grid0.coords t) = ![0, 0, 0] := by decide +kernel
theorem ix_1 : ∀ t : Fin grid0.N, cc0_transform_1 (grid0.coords t) = ![0, t.val / 11] := by decide +kernel
theorem ix_2 : ∀ t : Fin grid0.N, cc0_transform_2 (grid0.coords t) = ![t.val / 11] := by decide +kernel
theorem ix_3 : ∀ t : Fin grid0.N, cc0_transform_3 (grid0.coords t) = ![t.val % 11, 0, t.val / 11] := by decide +kernel
theorem ix_4 : ∀ t : Fin grid0.N, cc0_transform_4 (grid0.coords t) = ![t.val % 11, 0, t.val / 11] := by decide +kernel
theorem ix_5 : ∀ t : Fin grid0.N, cc0_transform_5 (grid0.coords t) = ![t.val % 11, 0, t.val / 11] := by decide +kernel
theorem ix_6 : ∀ t : Fin grid0.N, cc0_transform_6 (grid0.coords t) = ![0, t.val / 11] := by decide +kernel
/-- Where the body's conditions hold, -/
theorem first_iff : ∀ t : Fin grid0.N, First (grid0.coords t) ↔ t.val = 0 := by decide +kernel
theorem start_iff : ∀ t : Fin grid0.N, Start (grid0.coords t) ↔ t.val % 11 = 0 := by decide +kernel
theorem last_iff : ∀ t : Fin grid0.N, k0_cond4 (grid0.coords t) = 1#1 ↔ t.val % 11 = 10 := by decide +kernel
/-- and which offsets it reads. -/
theorem rd_1 : ∀ t : Fin grid0.N, k0_off1 (grid0.coords t) = ![t.val % 11] := by decide +kernel
theorem rd_2 : ∀ t : Fin grid0.N, k0_off2 (grid0.coords t) = ![t.val % 11 + 1] := by decide +kernel

/-- Inside the array a cut block is whole. -/
theorem lt_extent {ix k d y : ℕ} (hy : y < k) (h : ix * k + y < d) : y < (Pipeline.Clip.of ix k d).extent k := by
  unfold Pipeline.Clip.of
  split
  · exact hy
  · show y < d - ix * k
    omega

/-- A cut block ends at the array's edge. -/
theorem lt_of_extent {ix k d y : ℕ} (h0 : ix * k < d) (h : y < (Pipeline.Clip.of ix k d).extent k) : ix * k + y < d := by
  unfold Pipeline.Clip.of at h
  split at h
  · next hn =>
    have h' : y < k := h
    rw [Nat.succ_mul] at hn
    omega
  · have h' : y < d - ix * k := h
    omega

/-- A staging buffer whose block is in holds, at an index inside the array, the array's element there. -/
theorem fill_read {G : Pipeline.Grid} (w : Pipeline.Window sig G) (t : Fin G.N) {c : Dev nD} (A : Buf (Elt Ideal) (w.arr.view.loc (c : Thread nD τ))) (d : w.block.Idx → Elt Ideal w.elt)
    (hoff : ∀ a, w.kind.off (w.index t a) (w.size a) = w.index t a * w.size a)
    (hcl : ∀ a, w.clip (G.coords t) a = none ∨ w.clip (G.coords t) a = Pipeline.Clip.of (w.index t a) (w.size a) (w.shape.size a))
    (y : w.block.Idx) (z : w.shape.Idx) (hz : ∀ a, (z a).val = w.index t a * w.size a + (y a).val) :
    w.fill (G.coords t) d ((w.blk t).view.read (Elt Ideal) A) y = w.arr.view.read (Elt Ideal) A z := by
  have hx : ∀ a, (y a).val < w.xsize (G.coords t) a := fun a => by
    show (y a).val < (w.clip (G.coords t) a).extent (w.size a)
    rcases hcl a with h | h
    · rw [h]; exact (y a).isLt
    · rw [h]; exact lt_extent (y a).isLt (by rw [← hz a]; exact (z a).isLt)
  unfold Pipeline.Window.fill
  rw [dif_pos ((w.moved_iff _ _).mpr hx)]
  show w.arr.view.read (Elt Ideal) A ((w.rect t).emb fun a => ⟨(y a).val, hx a⟩) = _
  congr 1
  funext a
  apply Fin.ext
  show w.kind.off (w.index t a) (w.size a) + 1 * (y a).val = (z a).val
  rw [hoff, hz]
  omega

/-- The staged activations are the whole array, -/
theorem staged_0 (c : Dev nD) (t : Fin (cfgM m).N) (d) : staged m c 0 t d = V m c main_arg0 := by
  funext y
  refine fill_read (c := c) ((cfgM m).win 0) t (V m c main_arg0) d (fun _ => rfl) (fun _ => .inl rfl) y y fun a => ?_
  have h : ((cfgM m).win 0).index t = ![0, 0, 0] := ix_0 t
  rw [h]
  match a with
  | ⟨0, _⟩ => exact (by omega : ∀ n : ℕ, n = 0 * 2 + n) _
  | ⟨1, _⟩ => exact (by omega : ∀ n : ℕ, n = 0 * 128 + n) _
  | ⟨2, _⟩ => exact (by omega : ∀ n : ℕ, n = 0 * 7168 + n) _

/-- the staged base weights, at a column inside the array, -/
theorem staged_1 (c : Dev nD) (t : Fin (cfgM m).N) (d) (k : Fin 7168) (col : Fin 512) (o : Fin 2880) (ho : o.val = 512 * (t.val / 11) + col.val) :
    staged m c 1 t d (ix2 k col) = V m c main_arg1 (ix2 k o) := by
  refine fill_read (c := c) ((cfgM m).win 1) t (V m c main_arg1) d (fun _ => rfl) (fun _ => .inr rfl) (ix2 k col) (ix2 k o) fun a => ?_
  have h : ((cfgM m).win 1).index t = ![0, t.val / 11] := ix_1 t
  rw [h]
  match a with
  | ⟨0, _⟩ => exact (by omega : ∀ n : ℕ, n = 0 * 7168 + n) _
  | ⟨1, _⟩ => exact ho.trans (by rw [Nat.mul_comm]; rfl)

/-- the staged base scales, -/
theorem staged_2 (c : Dev nD) (t : Fin (cfgM m).N) (d) (col : Fin 512) (o : Fin 2880) (ho : o.val = 512 * (t.val / 11) + col.val) :
    staged m c 2 t d (ix1 col) = V m c main_arg2 (ix1 o) := by
  refine fill_read (c := c) ((cfgM m).win 2) t (V m c main_arg2) d (fun _ => rfl) (fun _ => .inr rfl) (ix1 col) (ix1 o) fun a => ?_
  have h : ((cfgM m).win 2).index t = ![t.val / 11] := ix_2 t
  rw [h]
  match a with
  | ⟨0, _⟩ => exact ho.trans (by rw [Nat.mul_comm]; rfl)

/-- the staged value bytes, -/
theorem staged_3 (c : Dev nD) (t : Fin (cfgM m).N) (d) (n : Fin 11) (hn : n.val = t.val % 11) (k : Fin 1792) (col : Fin 512) (o : Fin 2880) (ho : o.val = 512 * (t.val / 11) + col.val) :
    staged m c 3 t d (ix3 0 k col) = V m c main_arg3 (ix3 n k o) := by
  refine fill_read (c := c) ((cfgM m).win 3) t (V m c main_arg3) d (fun _ => rfl) (fun _ => .inr rfl) (ix3 0 k col) (ix3 n k o) fun a => ?_
  have h : ((cfgM m).win 3).index t = ![t.val % 11, 0, t.val / 11] := ix_3 t
  rw [h]
  match a with
  | ⟨0, _⟩ => exact hn.trans ((by omega : ∀ n : ℕ, n = n * 1 + 0) _)
  | ⟨1, _⟩ => exact (by omega : ∀ n : ℕ, n = 0 * 1792 + n) _
  | ⟨2, _⟩ => exact ho.trans (by rw [Nat.mul_comm]; rfl)

/-- the staged index bytes, -/
theorem staged_4 (c : Dev nD) (t : Fin (cfgM m).N) (d) (n : Fin 11) (hn : n.val = t.val % 11) (k : Fin 896) (col : Fin 512) (o : Fin 2880) (ho : o.val = 512 * (t.val / 11) + col.val) :
    staged m c 4 t d (ix3 0 k col) = V m c main_arg4 (ix3 n k o) := by
  refine fill_read (c := c) ((cfgM m).win 4) t (V m c main_arg4) d (fun _ => rfl) (fun _ => .inr rfl) (ix3 0 k col) (ix3 n k o) fun a => ?_
  have h : ((cfgM m).win 4).index t = ![t.val % 11, 0, t.val / 11] := ix_4 t
  rw [h]
  match a with
  | ⟨0, _⟩ => exact hn.trans ((by omega : ∀ n : ℕ, n = n * 1 + 0) _)
  | ⟨1, _⟩ => exact (by omega : ∀ n : ℕ, n = 0 * 896 + n) _
  | ⟨2, _⟩ => exact ho.trans (by rw [Nat.mul_comm]; rfl)

/-- and the staged tenant scales. -/
theorem staged_5 (c : Dev nD) (t : Fin (cfgM m).N) (d) (n : Fin 11) (hn : n.val = t.val % 11) (k : Fin 56) (col : Fin 512) (o : Fin 2880) (ho : o.val = 512 * (t.val / 11) + col.val) :
    staged m c 5 t d (ix3 0 k col) = V m c main_arg5 (ix3 n k o) := by
  refine fill_read (c := c) ((cfgM m).win 5) t (V m c main_arg5) d (fun _ => rfl) (fun _ => .inr rfl) (ix3 0 k col) (ix3 n k o) fun a => ?_
  have h : ((cfgM m).win 5).index t = ![t.val % 11, 0, t.val / 11] := ix_5 t
  rw [h]
  match a with
  | ⟨0, _⟩ => exact hn.trans ((by omega : ∀ n : ℕ, n = n * 1 + 0) _)
  | ⟨1, _⟩ => exact (by omega : ∀ n : ℕ, n = 0 * 56 + n) _
  | ⟨2, _⟩ => exact ho.trans (by rw [Nat.mul_comm]; rfl)

end Cert.KernelIdeal.Hand

end
-- ==== Proof.IPoint.lean ====
module

public import proofs.«01_k».proof.Proof.IBlocks

@[expose] public section

set_option maxRecDepth 16384

/-! What one point of the grid does to the activations' and the accumulator's buffers and to the output block. -/

noncomputable section

namespace Cert.KernelIdeal.Hand

open Idealize.ShloMosaic Idealize.ShloMosaic.TcCoe
open Cert.KernelIdeal.Gen Cert.Bits4 Cert.Spec

variable (m : (ℓ : Loc nD τ sig) → Buf (Elt Ideal) ℓ)

/-- The offset the body reads first at point `t`: the tenant's first row, -/
theorem off1_eq (c : Dev nD) (t : Fin grid0.N) (xt : TbBuf (F := Ideal) c tbM) (n : Fin 12) (hn : n.val = t.val % 11) :
    off1 (F := Ideal) c (grid0.coords t) xt = (xt : Vec Ideal S12 .i32) (ix1 n) := by
  show (xt : Vec Ideal S12 .i32) _ = _
  congr 1
  funext a
  apply Fin.ext
  match a with
  | ⟨0, _⟩ =>
    refine Eq.trans ?_ ((congrFun (rd_1 t) 0).trans hn.symm)
    exact Nat.add_zero _
/-- and second: the row past its last. -/
theorem off2_eq (c : Dev nD) (t : Fin grid0.N) (xt : TbBuf (F := Ideal) c tbM) (n : Fin 12) (hn : n.val = t.val % 11 + 1) :
    off2 (F := Ideal) c (grid0.coords t) xt = (xt : Vec Ideal S12 .i32) (ix1 n) := by
  show (xt : Vec Ideal S12 .i32) _ = _
  congr 1
  funext a
  apply Fin.ext
  match a with
  | ⟨0, _⟩ =>
    refine Eq.trans ?_ ((congrFun (rd_2 t) 0).trans hn.symm)
    exact Nat.add_zero _

/-- The accumulation so far, of core `c`'s arrays. -/
abbrev accM (c : Dev nD) (r : Fin 256) (o : Fin 2880) (n : ℕ) : EReal :=
  upto (V m c main_arg0) (V m c main_arg1) (V m c main_arg2) (V m c main_arg3) (V m c main_arg4) (V m c main_arg5) (tbl m 0) r o n

/-- What the activations' buffer holds before point `n`: after the first point, the permuted activations; -/
def I0 (c : Dev nD) (n : ℕ) (d0 : Vec Ideal S256x7168 .bf16) : Prop := n ≠ 0 → d0 = xpOf (V m c main_arg0)
/-- what the accumulator holds: inside a column block, the base term and the tenants' parts so far, at the columns inside
    the array. -/
def I1 (c : Dev nD) (n : ℕ) (d1 : Vec Ideal S256x512 .f32) : Prop :=
  n % 11 ≠ 0 → ∀ (r : Fin 256) (col : Fin 512) (o : Fin 2880), o.val = 512 * (n / 11) + col.val → d1 (ix2 r col) = accM m c r o (n % 11)

variable (hasc : ∀ c, AscAll (V m c main_arg4))

/-- The activations' buffer after point `t`. -/
theorem xp_step (c : Dev nD) (t : Fin grid0.N) (d0 : Vec Ideal S256x7168 .bf16) (h0 : I0 m c t.val d0) :
    xpAfter (grid0.coords t) (V m c main_arg0 : Vec Ideal S2x128x7168 .bf16) d0 = xpOf (V m c main_arg0) := by
  unfold xpAfter
  by_cases h : First (grid0.coords t)
  · rw [if_pos h]
  · rw [if_neg h]
    exact h0 fun e => h ((first_iff t).mpr e)

include hasc in
/-- The accumulator after point `t`: one tenant's part more. -/
theorem acc_step (c : Dev nD) (t : Fin grid0.N) (x0 : Vec Ideal S2x128x7168 .bf16) (e0 : x0 = V m c main_arg0)
    (x1 : Vec Ideal S7168x512 .fp8e4m3) (x2 : Vec Ideal S512 .f32) (x3 : Vec Ideal S1x1792x512 .i8) (x4 : Vec Ideal S1x896x512 .i8) (x5 : Vec Ideal S1x56x512 .bf16)
    (n : Fin 11) (hn : n.val = t.val % 11) (r : Fin 256) (col : Fin 512) (o : Fin 2880) (ho : o.val = 512 * (t.val / 11) + col.val)
    (e1 : ∀ k : Fin 7168, x1 (ix2 k col) = V m c main_arg1 (ix2 k o)) (e2 : x2 (ix1 col) = V m c main_arg2 (ix1 o))
    (e3 : ∀ k : Fin 1792, x3 (ix3 0 k col) = V m c main_arg3 (ix3 n k o)) (e4 : ∀ k : Fin 896, x4 (ix3 0 k col) = V m c main_arg4 (ix3 n k o))
    (e5 : ∀ k : Fin 56, x5 (ix3 0 k col) = V m c main_arg5 (ix3 n k o))
    (d0 : Vec Ideal S256x7168 .bf16) (h0 : I0 m c t.val d0) (d1 : Vec Ideal S256x512 .f32) (h1 : I1 m c t.val d1)
    (v1 v4 : BitVec 32) (hv1 : v1 = (tbl m 0 : Vec Ideal S12 .i32) (ix1 n.castSucc)) (hv4 : v4 = (tbl m 0 : Vec Ideal S12 .i32) (ix1 n.succ)) :
    accAfter (grid0.coords t) v1 v4 x0 x1 x2 x3 x4 x5 d0 d1 (ix2 r col)
      = accM m c r o (t.val % 11 + 1) := by
  subst e0
  rw [accAfter_apply _ _ _ _ _ _ _ _ _ _ _ (xp_step m c t d0 h0) r col (fun q => by rw [e4]; exact hasc c n o q)]
  rw [hv1, hv4]
  have hb : startAfter (grid0.coords t) (V m c main_arg0 : Vec Ideal S2x128x7168 .bf16) x1 x2 d1 (ix2 r col) = accM m c r o n.val := by
    unfold startAfter
    by_cases hs : Start (grid0.coords t)
    · have hz := (start_iff t).mp hs
      rw [if_pos hs, pay4_apply, e2, show n.val = 0 from hn.trans hz]
      simp only [e1]
      rfl
    · have hz : t.val % 11 ≠ 0 := fun e => hs ((start_iff t).mpr e)
      rw [if_neg hs, h1 hz r col o ho, ← hn]
  have hp : contrib ((tbl m 0 : Vec Ideal S12 .i32) (ix1 n.castSucc)) ((tbl m 0 : Vec Ideal S12 .i32) (ix1 n.succ)) (V m c main_arg0) x3 x4 x5 r col
      = part (V m c main_arg0) (V m c main_arg3) (V m c main_arg4) (V m c main_arg5) (tbl m 0) n r o := by
    unfold contrib part wK wgt
    simp only [e3, e4, e5]
  rw [hb, hp, ← hn]
  exact (upto_succ _ _ _ _ _ _ _ r o n).symm

end Cert.KernelIdeal.Hand

end
-- ==== Proof.IValue.lean ====
module

public import proofs.«01_k».proof.Proof.IPoint

@[expose] public section

set_option maxRecDepth 16384

/-! The value run of `KernelIdeal`, over ideal values: where the index nibbles ascend, the result array ends holding the
    base term plus all the tenants' parts. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Bits4 Cert.Spec

namespace Value

local notation "𝕄" => MT nD τ sig Unit (Elt Ideal) ℕ (UR sig nD τ) ℕ

variable (m : (ℓ : Loc nD τ sig) → Buf (Elt Ideal) ℓ) (ρ : Dev nD → PrngReg)

/-- The output, at a column inside the array; beyond it, nothing is said (zero stands there). -/
def outBlk (c : Dev nD) (n : ℕ) : Vec Ideal S256x512 .bf16 := fun y =>
  if h : 512 * (n / 11) + (y 1).val < 2880 then accM m c (y 0) ⟨512 * (n / 11) + (y 1).val, h⟩ 11 else 0

/-- What is carried from point to point: the permuted activations, the accumulation so far, the duplicated scales' buffer
    at anything, the generator register and the offsets. -/
def Inv (c : Dev nD) (n : ℕ) : sProp 𝕄 :=
  iprop((∃ d0, ∃ d1, ⌜I0 m c n d0 ∧ I1 m c n d1⌝ ∗ owns (c : Thread nD τ) scM0 fullShare d0 ∗ owns (c : Thread nD τ) scM1 fullShare d1)
    ∗ (∃ d, owns (c : Thread nD τ) scM2 fullShare d) ∗ (∃ r, prngReg c r) ∗ tbPt c tbM (tbl m 0))

/-- What each window's staging buffer holds after the body at a point. -/
def aft (c : Dev nD) (t : Fin (cfgM m).N) (w : Fin 7) : ((cfgM m).win w).block.Idx → Elt Ideal ((cfgM m).win w).elt :=
  if h : w = 6 then
    cast (congrArg (fun w : Fin 7 => ((cfgM m).win w).block.Idx → Elt Ideal ((cfgM m).win w).elt) h.symm) (outBlk m c t.val)
  else staged m c w t (Pipeline.Dat.unnamed (cfg := cfgM m) w t)

theorem aft_in (c : Dev nD) (t : Fin (cfgM m).N) (w : Fin 7) (h : w ≠ 6) : aft m c t w = staged m c w t (Pipeline.Dat.unnamed (cfg := cfgM m) w t) :=
  dif_neg h
theorem aft_out (c : Dev nD) (t : Fin (cfgM m).N) : aft m c t 6 = outBlk m c t.val :=
  dif_pos rfl

/-- The proof data of the pipeline. -/
def dats (_ : Fin 1) (c : Dev nD) : Dat τ (Elt Ideal) Unit ℕ (UR sig nD τ) ℕ (cfgM m) c where
  A w := V m c (Pipeline.arrRef spec0 w)
  after w t := aft m c t w
  Φ n := Inv m c n.val
  q _ := fullShare
  owed _ := 0

theorem A_eq (c : Dev nD) (w : Fin (cfgM m).W) : (dats m 0 c).A w = V m c (Pipeline.arrRef spec0 w) := by
  dsimp only [dats]

theorem after_in (c : Dev nD) (w : Fin 7) (h : w ≠ 6) (t : Fin (cfgM m).N) :
    (dats m 0 c).after w t = staged m c w t (Pipeline.Dat.unnamed (cfg := cfgM m) w t) :=
  aft_in m c t w h
theorem after6 (c : Dev nD) (t : Fin (cfgM m).N) : (dats m 0 c).after 6 t = outBlk m c t.val :=
  aft_out m c t

/-- Each input's current staging buffer holds its block when the body runs. -/
theorem before0 (c : Dev nD) (t : Fin (cfgM m).N) (d) : (dats m 0 c).before 0 t d = staged m c 0 t d :=
  before_in m (dats m 0 c) 0 rfl (fun _ => rfl) (fun _ _ _ => rfl) (A_eq m c 0) _ (after_in m c 0 (by decide)) t d
theorem before1 (c : Dev nD) (t : Fin (cfgM m).N) (d) : (dats m 0 c).before 1 t d = staged m c 1 t d :=
  before_in m (dats m 0 c) 1 rfl (fun _ => rfl) (clip1 m) (A_eq m c 1) _ (after_in m c 1 (by decide)) t d
theorem before2 (c : Dev nD) (t : Fin (cfgM m).N) (d) : (dats m 0 c).before 2 t d = staged m c 2 t d :=
  before_in m (dats m 0 c) 2 rfl (fun _ => rfl) (clip2 m) (A_eq m c 2) _ (after_in m c 2 (by decide)) t d
theorem before3 (c : Dev nD) (t : Fin (cfgM m).N) (d) : (dats m 0 c).before 3 t d = staged m c 3 t d :=
  before_in m (dats m 0 c) 3 rfl (fun _ => rfl) (clip3 m) (A_eq m c 3) _ (after_in m c 3 (by decide)) t d
theorem before4 (c : Dev nD) (t : Fin (cfgM m).N) (d) : (dats m 0 c).before 4 t d = staged m c 4 t d :=
  before_in m (dats m 0 c) 4 rfl (fun _ => rfl) (clip4 m) (A_eq m c 4) _ (after_in m c 4 (by decide)) t d
theorem before5 (c : Dev nD) (t : Fin (cfgM m).N) (d) : (dats m 0 c).before 5 t d = staged m c 5 t d :=
  before_in m (dats m 0 c) 5 rfl (fun _ => rfl) (clip5 m) (A_eq m c 5) _ (after_in m c 5 (by decide)) t d

/-- What the body is called with at point `t`, window by window. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

/-- The output block as the body hands it back: as found where the column block goes on, else the output. -/
def post6 (c : Dev nD) (t : Fin (cfgM m).N) : sProp 𝕄 :=
  match (cfgM m).idle 6 ((cfgM m).grid.coords t) with
  | true =>
    match ((cfgM m).win 6).flush t with
    | false => iprop(∃ d, owns (c : Thread nD τ) (ms6 m t) fullShare ((dats m 0 c).before 6 t d))
    | true => iprop(∃ d, owns (c : Thread nD τ) (ms6 m t) fullShare (((cfgM m).win 6).fill ((cfgM m).grid.coords t) d (((cfgM m).win 6).cut ((cfgM m).grid.coords t) ((dats m 0 c).after 6 t))))
  | false => iprop(∃ d, owns (c : Thread nD τ) (ms6 m t) fullShare (((cfgM m).win 6).fill ((cfgM m).grid.coords t) d (((cfgM m).win 6).cut ((cfgM m).grid.coords t) ((dats m 0 c).after 6 t))))

/-- What the body returns: a window cut by the array's edge is stated on its inside only. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ (∃ d, owns (c : Thread nD τ) (ms1 m t) fullShare (((cfgM m).win 1).fill ((cfgM m).grid.coords t) d (((cfgM m).win 1).cut ((cfgM m).grid.coords t) ((dats m 0 c).after 1 t))))
    ∗ (∃ d, owns (c : Thread nD τ) (ms2 m t) fullShare (((cfgM m).win 2).fill ((cfgM m).grid.coords t) d (((cfgM m).win 2).cut ((cfgM m).grid.coords t) ((dats m 0 c).after 2 t))))
    ∗ (∃ d, owns (c : Thread nD τ) (ms3 m t) fullShare (((cfgM m).win 3).fill ((cfgM m).grid.coords t) d (((cfgM m).win 3).cut ((cfgM m).grid.coords t) ((dats m 0 c).after 3 t))))
    ∗ (∃ d, owns (c : Thread nD τ) (ms4 m t) fullShare (((cfgM m).win 4).fill ((cfgM m).grid.coords t) d (((cfgM m).win 4).cut ((cfgM m).grid.coords t) ((dats m 0 c).after 4 t))))
    ∗ (∃ d, owns (c : Thread nD τ) (ms5 m t) fullShare (((cfgM m).win 5).fill ((cfgM m).grid.coords t) d (((cfgM m).win 5).cut ((cfgM m).grid.coords t) ((dats m 0 c).after 5 t))))
    ∗ post6 m c t)

/-- Inside a column block the next point's output block is the same. -/
theorem flush6 (t : Fin (cfgM m).N) (h : t.val % 11 ≠ 10) : ((cfgM m).win 6).flush t = false := by
  have hN : (cfgM m).grid.N = 66 := N66 m
  have ht : t.val < 66 := hN ▸ t.isLt
  unfold Pipeline.Window.flush
  rw [Bool.and_eq_false_iff]
  right
  rw [Bool.or_eq_false_iff, decide_eq_false_iff_not, decide_eq_false_iff_not]
  refine ⟨by omega, ?_⟩
  rintro ⟨h', hne⟩
  apply hne
  have e1 : ((cfgM m).win 6).index ⟨t.val + 1, h'⟩ = ![0, (t.val + 1) / 11] := ix_6 ⟨t.val + 1, h'⟩
  have e2 : ((cfgM m).win 6).index t = ![0, t.val / 11] := ix_6 t
  rw [e1, e2, show (t.val + 1) / 11 = t.val / 11 by omega]

variable (hasc : ∀ c, AscAll (V m c main_arg4))

/-- Contents of a window's staging buffer. -/
abbrev Blk (w : Fin 7) : Type := ((cfgM m).win w).block.Idx → Elt Ideal ((cfgM m).win w).elt

/-- The accumulator's new contents at point `t`, `e1 … e5` beyond the array's edge. -/
def newAcc (c : Dev nD) (t : Fin (cfgM m).N) (e0 : Blk m 0) (e1 : Blk m 1) (e2 : Blk m 2) (e3 : Blk m 3) (e4 : Blk m 4) (e5 : Blk m 5) (d0 : Vec Ideal S256x7168 .bf16) (d1 : Vec Ideal S256x512 .f32) : Vec Ideal S256x512 .f32 :=
  accAfter (grid0.coords t) (off1 (F := Ideal) c (grid0.coords t) (tbl m 0)) (off2 (F := Ideal) c (grid0.coords t) (tbl m 0))
    (staged m c 0 t e0) (staged m c 1 t e1) (staged m c 2 t e2) (staged m c 3 t e3) (staged m c 4 t e4) (staged m c 5 t e5) d0 d1

include hasc in
/-- It is the accumulation with one tenant more, at the columns inside the array. -/
theorem newAcc_eq (c : Dev nD) (t : Fin (cfgM m).N) (e0 : Blk m 0) (e1 : Blk m 1) (e2 : Blk m 2) (e3 : Blk m 3) (e4 : Blk m 4) (e5 : Blk m 5) (d0 : Vec Ideal S256x7168 .bf16) (d1 : Vec Ideal S256x512 .f32)
    (h0 : I0 m c t.val d0) (h1 : I1 m c t.val d1) (r : Fin 256) (col : Fin 512) (o : Fin 2880) (ho : o.val = 512 * (t.val / 11) + col.val) :
    newAcc m c t e0 e1 e2 e3 e4 e5 d0 d1 (ix2 r col) = accM m c r o (t.val % 11 + 1) := by
  have hn : t.val % 11 < 11 := Nat.mod_lt _ (by decide)
  unfold newAcc
  exact acc_step m hasc c t _ (staged_0 m c t e0) _ _ _ _ _ ⟨t.val % 11, hn⟩ rfl r col o ho
    (fun k => staged_1 m c t e1 k col o ho) (staged_2 m c t e2 col o ho) (fun k => staged_3 m c t e3 _ rfl k col o ho)
    (fun k => staged_4 m c t e4 _ rfl k col o ho) (fun k => staged_5 m c t e5 _ rfl k col o ho) d0 h0 d1 h1 _ _
    (off1_eq c t _ _ rfl) (off2_eq c t _ _ rfl)

theorem I0_step (c : Dev nD) (t : Fin (cfgM m).N) (e0 : Blk m 0) (d0 : Vec Ideal S256x7168 .bf16) (h0 : I0 m c t.val d0) :
    I0 m c (t.val + 1) (xpAfter (grid0.coords t) (staged m c 0 t e0) d0) := fun _ => by
  rw [staged_0 m c t e0]; exact xp_step m c t d0 h0

include hasc in
theorem I1_step (c : Dev nD) (t : Fin (cfgM m).N) (e0 : Blk m 0) (e1 : Blk m 1) (e2 : Blk m 2) (e3 : Blk m 3) (e4 : Blk m 4) (e5 : Blk m 5) (d0 : Vec Ideal S256x7168 .bf16) (d1 : Vec Ideal S256x512 .f32)
    (h0 : I0 m c t.val d0) (h1 : I1 m c t.val d1) : I1 m c (t.val + 1) (newAcc m c t e0 e1 e2 e3 e4 e5 d0 d1) := fun hne r col o ho => by
  rw [newAcc_eq m hasc c t e0 e1 e2 e3 e4 e5 d0 d1 h0 h1 r col o (by omega)]
  congr 1
  omega

include hasc in
/-- At a column block's last point the output block is the output, inside the array. -/
theorem out_cut (c : Dev nD) (t : Fin (cfgM m).N) (hl : t.val % 11 = 10) (e0 : Blk m 0) (e1 : Blk m 1) (e2 : Blk m 2) (e3 : Blk m 3) (e4 : Blk m 4) (e5 : Blk m 5) (d0 : Vec Ideal S256x7168 .bf16) (d1 : Vec Ideal S256x512 .f32)
    (h0 : I0 m c t.val d0) (h1 : I1 m c t.val d1) :
    ((cfgM m).win 6).cut ((cfgM m).grid.coords t) (k0_pay7 (newAcc m c t e0 e1 e2 e3 e4 e5 d0 d1) : Vec Ideal S256x512 .bf16)
      = ((cfgM m).win 6).cut ((cfgM m).grid.coords t) ((dats m 0 c).after 6 t) := by
  rw [after6]
  funext j
  have hj : (j (1 : Fin 2)).val < (Pipeline.Clip.of (cc0_transform_6 (grid0.coords t) 1) 512 2880).extent 512 := (j (1 : Fin 2)).isLt
  have hi : cc0_transform_6 (grid0.coords t) 1 = t.val / 11 := congrFun (ix_6 t) 1
  rw [hi] at hj
  have ht : t.val < 66 := (N66 m) ▸ t.isLt
  have hv := lt_of_extent (by omega) hj
  have hr : (j (0 : Fin 2)).val < 256 := Nat.lt_of_lt_of_le (j (0 : Fin 2)).isLt (((cfgM m).win 6).xsize_le ((cfgM m).grid.coords t) (0 : Fin 2))
  have hc : (j (1 : Fin 2)).val < 512 := Nat.lt_of_lt_of_le (j (1 : Fin 2)).isLt (((cfgM m).win 6).xsize_le ((cfgM m).grid.coords t) (1 : Fin 2))
  have ey : ((cfgM m).win 6).xinj ((cfgM m).grid.coords t) j = (ix2 (⟨(j (0 : Fin 2)).val, hr⟩ : Fin 256) (⟨(j (1 : Fin 2)).val, hc⟩ : Fin 512) : S256x512.Idx) := by
    funext a; apply Fin.ext
    match a with
    | ⟨0, _⟩ => rfl
    | ⟨1, _⟩ => rfl
  have hv' : 512 * (t.val / 11) + (j (1 : Fin 2)).val < 2880 := by omega
  show (k0_pay7 (newAcc m c t e0 e1 e2 e3 e4 e5 d0 d1) : Vec Ideal S256x512 .bf16) (((cfgM m).win 6).xinj ((cfgM m).grid.coords t) j)
    = outBlk m c t.val (((cfgM m).win 6).xinj ((cfgM m).grid.coords t) j)
  rw [ey, pay7_apply, newAcc_eq m hasc c t e0 e1 e2 e3 e4 e5 d0 d1 h0 h1 _ _ ⟨512 * (t.val / 11) + (j (1 : Fin 2)).val, hv'⟩ rfl, hl]
  unfold outBlk
  have hv2 : 512 * (t.val / 11) + (ix2 (⟨(j (0 : Fin 2)).val, hr⟩ : Fin 256) (⟨(j (1 : Fin 2)).val, hc⟩ : Fin 512) (1 : Fin 2)).val < 2880 := hv'
  rw [dif_pos hv2]
  rfl

end Value

end Cert.KernelIdeal.Hand

end
-- ==== Proof.IRun.lean ====
module

public import proofs.«01_k».proof.Proof.IValue

@[expose] public section

set_option maxRecDepth 16384

/-! The value run of `KernelIdeal`, over ideal values, put together: where the index nibbles ascend, the result array ends holding the
    base term plus all the tenants' parts. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen Cert.Bits4 Cert.Spec

namespace Value

local notation "𝕄" => MT nD τ sig Unit (Elt Ideal) ℕ (UR sig nD τ) ℕ

variable (m : (ℓ : Loc nD τ sig) → Buf (Elt Ideal) ℓ) (ρ : Dev nD → PrngReg)

variable (hasc : ∀ c, AscAll (V m c main_arg4))

/-- The body at point `t` of the pipeline. -/
theorem body_at (c : Dev nD) (t : Fin (cfgM m).N) (e0 : Blk m 0) (e1 : Blk m 1) (e2 : Blk m 2) (e3 : Blk m 3) (e4 : Blk m 4) (e5 : Blk m 5)
    (d6 : Vec Ideal S256x512 .bf16) (d0 : Vec Ideal S256x7168 .bf16) (d1 : Vec Ideal S256x512 .f32) :
    HeldV c (ms0 m t) (ms1 m t) (ms2 m t) (ms3 m t) (ms4 m t) (ms5 m t) (ms6 m t) scM0 scM1 scM2
        (staged m c 0 t e0) (staged m c 1 t e1) (staged m c 2 t e2) (staged m c 3 t e3) (staged m c 4 t e4) (staged m c 5 t e5) (tbl m 0) d6 d0 d1
      ⊢ wp frame (wpE (defs₀ (F := Ideal)) Variants.none c none) Set.univ (bodyAt m t) (fun _ =>
        HeldV c (ms0 m t) (ms1 m t) (ms2 m t) (ms3 m t) (ms4 m t) (ms5 m t) (ms6 m t) scM0 scM1 scM2
          (staged m c 0 t e0) (staged m c 1 t e1) (staged m c 2 t e2) (staged m c 3 t e3) (staged m c 4 t e4) (staged m c 5 t e5) (tbl m 0)
          (outAfter (grid0.coords t) (newAcc m c t e0 e1 e2 e3 e4 e5 d0 d1) d6) (xpAfter (grid0.coords t) (staged m c 0 t e0) d0) (newAcc m c t e0 e1 e2 e3 e4 e5 d0 d1)) := by
  unfold newAcc bodyAt
  exact body_value c (grid0.coords t) (ms0 m t) (hs0 m t) (ms1 m t) (hs1 m t) (ms2 m t) (hs2 m t) (ms3 m t) (hs3 m t)
    (ms4 m t) (hs4 m t) (ms5 m t) (hs5 m t) (ms6 m t) (hs6 m t) scM0 (Memref.isWhole_whole _) scM1 (Memref.isWhole_whole _) scM2 (Memref.isWhole_whole _)
    (staged m c 0 t e0) (staged m c 1 t e1) (staged m c 2 t e2) (staged m c 3 t e3) (staged m c 4 t e4) (staged m c 5 t e5) (tbl m 0) d6 d0 d1 Set.univ

include hasc in
/-- At a point the output block is handed back as the pipeline asks. -/
theorem give_back (c : Dev nD) (t : Fin (cfgM m).N) (e0 : Blk m 0) (e1 : Blk m 1) (e2 : Blk m 2) (e3 : Blk m 3) (e4 : Blk m 4) (e5 : Blk m 5)
    (d6 : Blk m 6) (v6 : Vec Ideal S256x512 .bf16) (h6 : (dats m 0 c).before 6 t d6 = v6) (d0 : Vec Ideal S256x7168 .bf16) (d1 : Vec Ideal S256x512 .f32)
    (h0 : I0 m c t.val d0) (h1 : I1 m c t.val d1) :
    owns (c : Thread nD τ) (ms6 m t) fullShare (outAfter (grid0.coords t) (newAcc m c t e0 e1 e2 e3 e4 e5 d0 d1) v6) ⊢ post6 m c t := by
  unfold post6
  by_cases hl : k0_cond4 (grid0.coords t) = 1#1
  · rw [show (cfgM m).idle 6 ((cfgM m).grid.coords t) = false from by
      show (!(k0_cond4 (grid0.coords t) == 1#1)) = false
      rw [hl]; rfl,
      show outAfter (grid0.coords t) (newAcc m c t e0 e1 e2 e3 e4 e5 d0 d1) v6 = k0_pay7 (newAcc m c t e0 e1 e2 e3 e4 e5 d0 d1) from if_pos hl]
    have hf := ((cfgM m).win 6).fill_congr_cut _ (out_cut m hasc c t ((last_iff t).mp hl) e0 e1 e2 e3 e4 e5 d0 d1 h0 h1)
    generalize k0_pay7 (newAcc m c t e0 e1 e2 e3 e4 e5 d0 d1) = w at hf ⊢
    iintro H
    iexists w
    rw [hf]
    iexact H
  · rw [show (cfgM m).idle 6 ((cfgM m).grid.coords t) = true from by
      show (!(k0_cond4 (grid0.coords t) == 1#1)) = true
      rw [beq_eq_false_iff_ne.mpr hl]; rfl, flush6 m t fun e => hl ((last_iff t).mpr e),
      show outAfter (grid0.coords t) (newAcc m c t e0 e1 e2 e3 e4 e5 d0 d1) v6 = v6 from if_neg hl, ← h6]
    iintro H
    iexists d6
    iexact H

/-- A staged block cut to its inside and filled again is a staged block. -/
theorem keep (c : Dev nD) (w : Fin 7) (t : Fin (cfgM m).N) (d d' : ((cfgM m).win w).block.Idx → Elt Ideal ((cfgM m).win w).elt) :
    ((cfgM m).win w).fill ((cfgM m).grid.coords t) d (((cfgM m).win w).cut ((cfgM m).grid.coords t) (staged m c w t d')) = staged m c w t d := by
  unfold staged
  rw [Pipeline.Window.cut_fill]

/-- Ownership of a buffer at equal contents. -/
theorem owns_congr (c : Dev nD) {S : Shape} {e : EltTy} (M : Memref sig .tc .vmem S e) {x y : Vec Ideal S e} (h : x = y) :
    (owns (c : Thread nD τ) M fullShare x : sProp 𝕄) ⊢ owns (c : Thread nD τ) M fullShare y := h ▸ .rfl

/-- A run's separating conjunction put back in the pipeline's order. -/
theorem glue {D0 D1 D2 D3 D4 D5 D6 A0 A1 : Type} {p : A0 → A1 → Prop} {H0 : D0 → sProp 𝕄} {H1 : D1 → sProp 𝕄} {H2 : D2 → sProp 𝕄} {H3 : D3 → sProp 𝕄}
    {H4 : D4 → sProp 𝕄} {H5 : D5 → sProp 𝕄} {H6 : D6 → sProp 𝕄} {S0 : A0 → sProp 𝕄} {S1 : A1 → sProp 𝕄} {S2 T G O X P0 P1 P2 P3 P4 P5 P6 : sProp 𝕄} {W : sProp 𝕄 → sProp 𝕄}
    (hW : ∀ P Q : sProp 𝕄, W P ∗ (P -∗ Q) ⊢ W Q)
    (hb : ∀ d0 d1 d2 d3 d4 d5 d6 s0 s1, p s0 s1 →
      iprop(H0 d0 ∗ H1 d1 ∗ H2 d2 ∗ H3 d3 ∗ H4 d4 ∗ H5 d5 ∗ H6 d6 ∗ S0 s0 ∗ S1 s1 ∗ S2 ∗ T) ⊢ W iprop(P0 ∗ P1 ∗ P2 ∗ P3 ∗ P4 ∗ P5 ∗ P6 ∗ X ∗ S2 ∗ T)) :
    iprop(((∃ s0, ∃ s1, ⌜p s0 s1⌝ ∗ S0 s0 ∗ S1 s1) ∗ S2 ∗ G ∗ T) ∗ O ∗ (∃ d, H0 d) ∗ (∃ d, H1 d) ∗ (∃ d, H2 d) ∗ (∃ d, H3 d) ∗ (∃ d, H4 d) ∗ (∃ d, H5 d) ∗ (∃ d, H6 d))
      ⊢ W iprop((X ∗ S2 ∗ G ∗ T) ∗ O ∗ P0 ∗ P1 ∗ P2 ∗ P3 ∗ P4 ∗ P5 ∗ P6) := by
  iintro ⟨⟨⟨%s0, %s1, %hI, HS0, HS1⟩, HS2, Hg, HT0⟩, Ho, ⟨%d0, H0⟩, ⟨%d1, H1⟩, ⟨%d2, H2⟩, ⟨%d3, H3⟩, ⟨%d4, H4⟩, ⟨%d5, H5⟩, ⟨%d6, H6⟩⟩
  iapply (hW iprop(P0 ∗ P1 ∗ P2 ∗ P3 ∗ P4 ∗ P5 ∗ P6 ∗ X ∗ S2 ∗ T) _)
  isplitl [H0 H1 H2 H3 H4 H5 H6 HS0 HS1 HS2 HT0]
  · iapply (hb d0 d1 d2 d3 d4 d5 d6 s0 s1 hI)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iexact HT0
  iintro ⟨H0, H1, H2, H3, H4, H5, H6, HX, HS2, HT0⟩
  isplitl [HX HS2 Hg HT0]
  · isplitl [HX]; · iexact HX
    isplitl [HS2]; · iexact HS2
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The parts of what a run leaves, each weakened to what the pipeline asks. -/
theorem weaken {A0 A1 : Type} {p : A0 → A1 → Prop} {S0 : A0 → sProp 𝕄} {S1 : A1 → sProp 𝕄} {H0 H1 H2 H3 H4 H5 H6 S2 T P0 P1 P2 P3 P4 P5 P6 : sProp 𝕄} {s0 : A0} {s1 : A1}
    (hp : p s0 s1) (h0 : H0 ⊢ P0) (h1 : H1 ⊢ P1) (h2 : H2 ⊢ P2) (h3 : H3 ⊢ P3) (h4 : H4 ⊢ P4) (h5 : H5 ⊢ P5) (h6 : H6 ⊢ P6) :
    iprop(H0 ∗ H1 ∗ H2 ∗ H3 ∗ H4 ∗ H5 ∗ H6 ∗ S0 s0 ∗ S1 s1 ∗ S2 ∗ T)
      ⊢ iprop(P0 ∗ P1 ∗ P2 ∗ P3 ∗ P4 ∗ P5 ∗ P6 ∗ (∃ s0, ∃ s1, ⌜p s0 s1⌝ ∗ S0 s0 ∗ S1 s1) ∗ S2 ∗ T) := by
  iintro ⟨H0, H1, H2, H3, H4, H5, H6, HS0, HS1, HS2, HT0⟩
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  isplitl [H6]; · iapply h6; iexact H6
  isplitl [HS0 HS1]
  · iexists s0, s1
    isplitr
    · ipureintro
      exact hp
    isplitl [HS0]; · iexact HS0
    iexact HS1
  isplitl [HS2]; · iexact HS2
  iexact HT0

include hasc in
set_option maxHeartbeats 4000000 in
/-- The body at any point. -/
theorem sound_body (c : Dev nD) (t : Fin (cfgM m).N) :
    bodyPre m c t ⊢ wp frame (wpE (defs₀ (F := Ideal)) Variants.none c none) Set.univ (bodyAt m t) (fun _ => bodyPost m c t) := by
  unfold bodyPre bodyPost
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv
  refine glue (W := fun P => wp frame (wpE (defs₀ (F := Ideal)) Variants.none c none) Set.univ (bodyAt m t) (fun _ => P)) (fun P Q => wp_use (F := Ideal) (E := Set.univ) (c := c) (Q := P) (p := bodyAt m t) (K := fun _ => Q) .rfl) ?_
  intro d0 d1 d2 d3 d4 d5 d6 s0 s1 hI
  rw [before0, before1, before2, before3, before4, before5]
  have hb := body_at m c t d0 d1 d2 d3 d4 d5 ((dats m 0 c).before 6 t d6) s0 s1
  unfold HeldV at hb
  refine hb.trans (wp_mono _ _ _ fun _ => weaken ⟨I0_step m c t d0 s0 hI.1, I1_step m hasc c t d0 d1 d2 d3 d4 d5 s0 s1 hI.1 hI.2⟩ ?_ ?_ ?_ ?_ ?_ ?_
    (give_back m hasc c t d0 d1 d2 d3 d4 d5 d6 _ rfl s0 s1 hI.1 hI.2))
  · rw [after_in m c 0 (by decide) t]
    exact owns_congr c (ms0 m t) ((staged_0 m c t d0).trans (staged_0 m c t (Pipeline.Dat.unnamed (cfg := cfgM m) 0 t)).symm)
  · rw [after_in m c 1 (by decide) t]
    iintro H
    iexists d1
    iapply (owns_congr c (ms1 m t) (keep m c 1 t d1 (Pipeline.Dat.unnamed (cfg := cfgM m) 1 t)).symm)
    iexact H
  · rw [after_in m c 2 (by decide) t]
    iintro H
    iexists d2
    iapply (owns_congr c (ms2 m t) (keep m c 2 t d2 (Pipeline.Dat.unnamed (cfg := cfgM m) 2 t)).symm)
    iexact H
  · rw [after_in m c 3 (by decide) t]
    iintro H
    iexists d3
    iapply (owns_congr c (ms3 m t) (keep m c 3 t d3 (Pipeline.Dat.unnamed (cfg := cfgM m) 3 t)).symm)
    iexact H
  · rw [after_in m c 4 (by decide) t]
    iintro H
    iexists d4
    iapply (owns_congr c (ms4 m t) (keep m c 4 t d4 (Pipeline.Dat.unnamed (cfg := cfgM m) 4 t)).symm)
    iexact H
  · rw [after_in m c 5 (by decide) t]
    iintro H
    iexists d5
    iapply (owns_congr c (ms5 m t) (keep m c 5 t d5 (Pipeline.Dat.unnamed (cfg := cfgM m) 5 t)).symm)
    iexact H

include hasc in
/-- The pipeline's body obligation, at every point. -/
theorem body_obligation (c : Dev nD) : BodyObligationLoose (dats m 0 c) (defs₀ (F := Ideal)) Variants.none () Set.univ := fun t => by
  rw [bigSep_W0, bigSep_W0, defs₀_row m]
  exact triple_restated (sound_body m hasc c t) rfl .rfl fun _ => .rfl

/-- The launch hands the region its invariant, -/
theorem hin (c : Dev nD) : iprop(Pipeline.ΦA spec0 c ∗ Pipeline.ΦT pre0 (tbl m) c) ⊢ (dats m 0 c).Φ 0 := by
  rw [show (dats m 0 c).Φ 0 = Inv m c 0 from rfl, PhiT_eq, PhiA_eq]
  unfold Inv
  iintro ⟨⟨⟨⟨%s0, HS0⟩, ⟨%s1, HS1⟩, HS2⟩, Hg⟩, HT0⟩
  isplitl [HS0 HS1]
  · iexists s0, s1
    isplitr
    · ipureintro
      exact ⟨fun h => absurd rfl h, fun h => absurd rfl h⟩
    isplitl [HS0]; · iexact HS0
    iexact HS1
  isplitl [HS2]; · iexact HS2
  isplitl [Hg]; · iexact Hg
  iexact HT0

/-- and takes the scratch buffers back after the last point. -/
theorem hout (c : Dev nD) : (dats m 0 c).Φ (Fin.last (cfgM m).N) ⊢ Pipeline.ΦA spec0 c := by
  rw [show (dats m 0 c).Φ (Fin.last (cfgM m).N) = Inv m c (cfgM m).N from rfl, PhiA_eq]
  unfold Inv
  iintro ⟨⟨%s0, %s1, -, HS0, HS1⟩, HS2, Hg, -⟩
  isplitl [HS0 HS1 HS2]
  · isplitl [HS0]; · iexists s0; iexact HS0
    isplitl [HS1]; · iexists s1; iexact HS1
    iexact HS2
  iexact Hg

include hasc in
set_option backward.isDefEq.respectTransparency.types false in
/-- The whole run: the arrays as the pipeline leaves them, every counter at zero. -/
theorem run_main : θ_run defs (onTc (τ := τ) (main (F := Ideal))) (s₀ m ρ) (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := body_obligation m hasc) (hshare := fun c => (dats m 0 c).share_full fun _ => rfl)
    (howed := fun _ _ => rfl) (V := V m) (hmain := hmain m Variants.none) (hA := A_eq m) (hpf := V_pre m) (hin := hin m) (hout := hout m)

end Value

end Cert.KernelIdeal.Hand

end
-- ==== Proof.IFinal.lean ====
module

public import proofs.«01_k».proof.Proof.IRun

@[expose] public section

set_option maxRecDepth 16384

/-! The kernel's result as a function of its arguments. -/

noncomputable section

namespace Cert.KernelIdeal.Hand

open Idealize.ShloMosaic Idealize.ShloMosaic.TcCoe Idealize.SL.Sem
open Cert.KernelIdeal.Gen Cert.Bits4 Cert.Spec

namespace Value

variable (m : (ℓ : Loc nD τ sig) → Buf (Elt Ideal) ℓ) (ρ : Dev nD → PrngReg)

/-- The output array of core `c`. -/
def outArr (c : Dev nD) : Vec Ideal S256x2880 .bf16 := fun i => accM m c (i 0) (i 1) 11

/-- The output's blocks cover it. -/
theorem covers6 : ((cfgM m).win 6).Covers := by
  refine Pipeline.Window.covers_of_index_surj _ rfl (fun a => ?_) fun β => ?_
  · match a with
    | ⟨0, _⟩ => exact Nat.zero_lt_succ _
    | ⟨1, _⟩ => exact Nat.zero_lt_succ _
  · have n0 : ((cfgM m).win 6).nblk (0 : Fin 2) = 1 := by
      show (256 + 256 - 1) / 256 = 1
      rfl
    have n1 : ((cfgM m).win 6).nblk (1 : Fin 2) = 6 := by
      show (2880 + 512 - 1) / 512 = 6
      rfl
    have h0 : (β (0 : Fin 2)).val < 1 := Nat.lt_of_lt_of_eq (β (0 : Fin 2)).isLt n0
    have h1 : (β (1 : Fin 2)).val < 6 := Nat.lt_of_lt_of_eq (β (1 : Fin 2)).isLt n1
    have hN : (cfgM m).grid.N = 66 := N66 m
    refine ⟨⟨11 * (β (1 : Fin 2)).val, by omega⟩, fun a => ?_⟩
    have hi : ((cfgM m).win 6).index ⟨11 * (β (1 : Fin 2)).val, by omega⟩ = ![0, 11 * (β (1 : Fin 2)).val / 11] := ix_6 _
    rw [hi]
    match a with
    | ⟨0, _⟩ => exact (Nat.lt_one_iff.mp h0).symm
    | ⟨1, _⟩ => exact Nat.mul_div_cancel_left _ (by decide)

/-- The output array after the run. -/
theorem arr_out (c : Dev nD) : (dats m 0 c).arrAt 6 (cfgM m).N = outArr m c := by
  refine (dats m 0 c).arrAt_eq_of_covers 6 _ (covers6 m) fun t hf y => ?_
  have hj : (y (1 : Fin 2)).val < (Pipeline.Clip.of (cc0_transform_6 (grid0.coords t) 1) 512 2880).extent 512 := (y (1 : Fin 2)).isLt
  have hi0 : cc0_transform_6 (grid0.coords t) 0 = 0 := congrFun (ix_6 t) 0
  have hi : cc0_transform_6 (grid0.coords t) 1 = t.val / 11 := congrFun (ix_6 t) 1
  rw [hi] at hj
  have ht : t.val < 66 := (N66 m) ▸ t.isLt
  have hv := lt_of_extent (by omega) hj
  have hr : (y (0 : Fin 2)).val < 256 := Nat.lt_of_lt_of_le (y (0 : Fin 2)).isLt (((cfgM m).win 6).xsize_le ((cfgM m).grid.coords t) (0 : Fin 2))
  have hc : (y (1 : Fin 2)).val < 512 := Nat.lt_of_lt_of_le (y (1 : Fin 2)).isLt (((cfgM m).win 6).xsize_le ((cfgM m).grid.coords t) (1 : Fin 2))
  have hv' : 512 * (t.val / 11) + (y (1 : Fin 2)).val < 2880 := by omega
  have ey : ((cfgM m).win 6).xinj ((cfgM m).grid.coords t) y = (ix2 (⟨(y (0 : Fin 2)).val, hr⟩ : Fin 256) (⟨(y (1 : Fin 2)).val, hc⟩ : Fin 512) : S256x512.Idx) := by
    funext a; apply Fin.ext
    match a with
    | ⟨0, _⟩ => rfl
    | ⟨1, _⟩ => rfl
  have ez : (((cfgM m).win 6).blk t).view.emb y = (ix2 (⟨(y (0 : Fin 2)).val, hr⟩ : Fin 256) (⟨512 * (t.val / 11) + (y (1 : Fin 2)).val, hv'⟩ : Fin 2880) : S256x2880.Idx) := by
    funext a; apply Fin.ext
    match a with
    | ⟨0, _⟩ =>
      show cc0_transform_6 (grid0.coords t) 0 * 256 + 1 * (y (0 : Fin 2)).val = (y (0 : Fin 2)).val
      rw [hi0]; omega
    | ⟨1, _⟩ =>
      show cc0_transform_6 (grid0.coords t) 1 * 512 + 1 * (y (1 : Fin 2)).val = 512 * (t.val / 11) + (y (1 : Fin 2)).val
      rw [hi]; omega
  rw [after6]
  show outBlk m c t.val (((cfgM m).win 6).xinj ((cfgM m).grid.coords t) y) = outArr m c ((((cfgM m).win 6).blk t).view.emb y)
  rw [ey, ez]
  unfold outBlk outArr
  have hv2 : 512 * (t.val / 11) + (ix2 (⟨(y (0 : Fin 2)).val, hr⟩ : Fin 256) (⟨(y (1 : Fin 2)).val, hc⟩ : Fin 512) (1 : Fin 2)).val < 2880 := hv'
  rw [dif_pos hv2]
  rfl

variable (hasc : ∀ c, AscAll (V m c main_arg4))

include hasc in
/-- The run: the result is the output, the arguments are unchanged. -/
theorem run : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.out_eq c 6).trans (arr_out m c),
      (h.1.in_eq c 0 rfl).trans (A_eq m c 0),
      (h.1.in_eq c 1 rfl).trans (A_eq m c 1),
      (h.1.in_eq c 2 rfl).trans (A_eq m c 2),
      (h.1.in_eq c 3 rfl).trans (A_eq m c 3),
      (h.1.in_eq c 4 rfl).trans (A_eq m c 4),
      (h.1.in_eq c 5 rfl).trans (A_eq m c 5),
      (h.1 c).2 main_arg6 (by decide : main_arg6 ∈ Pipeline.restRefs sig spec0)⟩) (run_main m ρ hasc)

/-- The output array is the output of the arguments as launched. -/
theorem outArr_apply (c : Dev nD) (r : Fin 256) (o : Fin 2880) :
    outArr m c (ix2 r o) = out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) r o := by
  have e : (tbl m 0 : Vec Ideal S12 .i32) = m ((c.tc : Thread nD τ).loc main_arg6) := (V_pre m c 0).symm
  exact (upto_out _ _ _ _ _ _ _ r o).trans (congrArg (fun off : Vec Ideal S12 .i32 => out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) off r o) e)

end Value

end Cert.KernelIdeal.Hand

end
-- ==== Proof.RWeight.lean ====
module

public import proofs.«01_k».proof.Proof.Spec
public import proofs.«01_k».proof.Proof.Gen.ReferenceIdeal.Read
public import Idealize.ShloMosaic.Lib.Pointwise

@[expose] public section

set_option maxRecDepth 16384

/-! The reference's weight at an index: the operations that take the bytes apart, scatter the nibbles and scale them. -/

noncomputable section

namespace Cert.ReferenceIdeal.Hand

open Idealize.ShloMosaic
open Cert.ReferenceIdeal Cert.ReferenceIdeal.Gen Cert.ReferenceIdeal.Read
open Cert.KernelIdeal.Hand Cert.Bits4

/-- The low half of a byte, sign-extended by subtracting 16 from 8 on. -/
theorem low_int : ∀ b : BitVec 8,
    (Scalar.select (IntOp.cmpi .sge (IntOp.andi (b.setWidth 32) 15#32) 8#32) (IntOp.subi (IntOp.andi (b.setWidth 32) 15#32) 16#32) (IntOp.andi (b.setWidth 32) 15#32)).toInt = (lo4 b).toInt := by
  decide +kernel

/-- The high half likewise. -/
theorem high_int : ∀ b : BitVec 8,
    (Scalar.select (IntOp.cmpi .sge (IntOp.shrsi .host (b.setWidth 32) 4#32) 8#32) (IntOp.subi (IntOp.shrsi .host (b.setWidth 32) 4#32) 16#32) (IntOp.shrsi .host (b.setWidth 32) 4#32)).toInt = (hi4 b).toInt := by
  decide +kernel

/-- The first index of the even quad, -/
theorem idx0_even : ∀ b : BitVec 8, IntOp.andi (b.setWidth 32) 3#32 = (half4 b 0 &&& 3#4).setWidth 32 := by decide +kernel
/-- of the odd quad, -/
theorem idx0_odd : ∀ b : BitVec 8, IntOp.andi (IntOp.shrsi .host (b.setWidth 32) 4#32) 3#32 = (half4 b 1 &&& 3#4).setWidth 32 := by decide +kernel
/-- the second index of the even quad, -/
theorem idx1_even : ∀ b : BitVec 8, IntOp.andi (IntOp.shrsi .host (b.setWidth 32) 2#32) 3#32 = (half4 b 0 >>> 2).setWidth 32 := by decide +kernel
/-- and of the odd quad. -/
theorem idx1_odd : ∀ b : BitVec 8, IntOp.andi (IntOp.shrsi .host (b.setWidth 32) 6#32) 3#32 = (half4 b 1 >>> 2).setWidth 32 := by decide +kernel

/-- A selection by equality with a position. -/
theorem select_pos (a : BitVec 4) (p : ℕ) (hp : p < 4) (v z : EReal) :
    Scalar.select (IntOp.cmpi .eq (a.setWidth 32) (BitVec.ofNat 32 p)) v z = if a.toNat = p then v else z := by
  have e : IntOp.cmpi .eq (a.setWidth 32) (BitVec.ofNat 32 p) = BitVec.ofBool (decide (a.toNat = p)) := by
    revert a
    have : ∀ p : Fin 4, ∀ a : BitVec 4, IntOp.cmpi .eq (a.setWidth 32) (BitVec.ofNat 32 p.val) = BitVec.ofBool (decide (a.toNat = p.val)) := by decide +kernel
    exact this ⟨p, hp⟩
  rw [e]
  by_cases h : a.toNat = p
  · simp [h, Scalar.select]
  · simp [h, Scalar.select]

/-- The zero weight. -/
theorem num4_zero : num4 0#4 = 0 := by
  show (((0#4 : BitVec 4).toInt : ℝ) : EReal) = 0
  simp

/-- Two nibbles scattered to different positions and added: at each position the one selected there. -/
theorem two_pick (l h nx : BitVec 4) (p : ℕ) (ha : Asc nx) :
    (if (nx &&& 3#4).toNat = p then num4 l else 0) + (if (nx >>> 2).toNat = p then num4 h else 0) = num4 (pick l h nx p) := by
  have ha' : (nx &&& 3#4).toNat < (nx >>> 2).toNat := ha
  unfold pick
  by_cases h0 : (nx &&& 3#4).toNat = p
  · rw [if_pos h0, if_pos h0, if_neg (by omega), add_zero]
  · rw [if_neg h0, if_neg h0, zero_add]
    by_cases h1 : (nx >>> 2).toNat = p
    · rw [if_pos h1, if_pos h1]
    · rw [if_neg h1, if_neg h1, num4_zero]

section Chain

variable (x3 : Vec Ideal S11x1792x2880 .i8) (x4 : Vec Ideal S11x896x2880 .i8) (x5 : Vec Ideal S11x56x2880 .bf16)

/-- The decoded low half. -/
theorem v10_at (i : S11x1792x2880.Idx) : val_main_v10 (F := Ideal) x3 i = num4 (lo4 (x3 i)) := by
  refine Eq.trans ?_ (congrArg (fun z : ℤ => ((z : ℝ) : EReal)) (low_int (x3 i)))
  simp only [val_main_v10_apply, val_main_v9_apply, val_main_v8_apply, val_main_v7_apply, val_main_v6_apply, val_main_v5_apply, val_main_v4_apply, val_main_v3_apply,
    val_main_v2_apply, val_main_c_apply, val_main_c_0_apply, val_main_c_1_apply]
  rfl

/-- The decoded high half. -/
theorem v18_at (i : S11x1792x2880.Idx) : val_main_v18 (F := Ideal) x3 i = num4 (hi4 (x3 i)) := by
  refine Eq.trans ?_ (congrArg (fun z : ℤ => ((z : ℝ) : EReal)) (high_int (x3 i)))
  simp only [val_main_v18_apply, val_main_v17_apply, val_main_v16_apply, val_main_v15_apply, val_main_v14_apply, val_main_v13_apply, val_main_v12_apply, val_main_v11_apply,
    val_main_v2_apply, val_main_c_2_apply, val_main_c_3_apply, val_main_c_4_apply]
  rfl

/-- The even quads' first index, -/
theorem v21_at (i : S11x896x2880.Idx) : val_main_v21 (F := Ideal) x4 i = (half4 (x4 i) 0 &&& 3#4).setWidth 32 := by
  simp only [val_main_v21_apply, val_main_v20_apply, val_main_v19_apply, val_main_c_5_apply]
  exact idx0_even (x4 i)

/-- the odd quads' first, -/
theorem v25_at (i : S11x896x2880.Idx) : val_main_v25 (F := Ideal) x4 i = (half4 (x4 i) 1 &&& 3#4).setWidth 32 := by
  simp only [val_main_v25_apply, val_main_v24_apply, val_main_v23_apply, val_main_v22_apply, val_main_v19_apply, val_main_c_6_apply, val_main_c_7_apply]
  exact idx0_odd (x4 i)

/-- the even quads' second, -/
theorem v33_at (i : S11x896x2880.Idx) : val_main_v33 (F := Ideal) x4 i = (half4 (x4 i) 0 >>> 2).setWidth 32 := by
  simp only [val_main_v33_apply, val_main_v32_apply, val_main_v31_apply, val_main_v30_apply, val_main_v19_apply, val_main_c_8_apply, val_main_c_9_apply]
  exact idx1_even (x4 i)

/-- and the odd quads' second. -/
theorem v37_at (i : S11x896x2880.Idx) : val_main_v37 (F := Ideal) x4 i = (half4 (x4 i) 1 >>> 2).setWidth 32 := by
  simp only [val_main_v37_apply, val_main_v36_apply, val_main_v35_apply, val_main_v34_apply, val_main_v19_apply, val_main_c_10_apply, val_main_c_11_apply]
  exact idx1_odd (x4 i)

/-- Two arrays joined along a new axis of two: at each place the array that place comes from. -/
theorem joined (y z : Vec Ideal S11x896x1x2880 .i32) (h : Shape.Concatenates [S11x896x1x2880, S11x896x1x2880] S11x896x2x2880 2)
    (t : Fin 11) (a : Fin 896) (e : ℕ) (he : e < 2) (o : Fin 2880) :
    concatenate S11x896x2x2880 2 [⟨S11x896x1x2880, y⟩, ⟨S11x896x1x2880, z⟩] h (ix4 t a (⟨e, he⟩ : Fin 2) o)
      = if e = 0 then y (ix4 t a 0 o) else z (ix4 t a 0 o) := by
  by_cases h0 : e = 0
  · subst h0
    rw [if_pos rfl]
    exact concatenate_pair_apply_left 2 y z h _ rfl (ix4 t a 0 o) (fun b => match b with
      | ⟨0, _⟩ => rfl
      | ⟨1, _⟩ => rfl
      | ⟨2, _⟩ => rfl
      | ⟨3, _⟩ => rfl)
  · obtain rfl : e = 1 := by omega
    rw [if_neg h0]
    exact concatenate_pair_apply_right 2 y z h _ rfl rfl (ix4 t a 0 o) (fun b hb => match b, hb with
      | ⟨0, _⟩, _ => rfl
      | ⟨1, _⟩, _ => rfl
      | ⟨2, _⟩, hb => absurd rfl hb
      | ⟨3, _⟩, _ => rfl) rfl

/-- Row-major arithmetic: a row of two quads. -/
theorem split_pair (t q o : ℕ) (hq : q < 1792) (ho : o < 2880) :
    ((t * 1792 + q) * 2880 + o) / 5160960 = t ∧ ((t * 1792 + q) * 2880 + o) / 5760 % 896 = q / 2
      ∧ ((t * 1792 + q) * 2880 + o) / 2880 % 2 = q % 2 ∧ ((t * 1792 + q) * 2880 + o) % 2880 = o := by
  have e : ((t * 1792 + q) * 2880 + o) / 2880 = t * 1792 + q := by omega
  have e2 : ((t * 1792 + q) * 2880 + o) / 5760 = (t * 1792 + q) / 2 := by
    rw [show (5760 : ℕ) = 2880 * 2 from rfl, ← Nat.div_div_eq_div_mul, e]
  refine ⟨by omega, ?_, ?_, by omega⟩
  · rw [e2]; omega
  · rw [e]; omega

/-- The pair of quads' index array flattened: quad `q` reads row `q / 2` at place `q % 2`. -/
theorem idx29 (t : Fin 11) (q : Fin 1792) (o : Fin 2880) :
    idx_main_v29 (ix3 t q o) = ix4 t (⟨q.val / 2, by omega⟩ : Fin 896) (⟨q.val % 2, by omega⟩ : Fin 2) o := by
  obtain ⟨h0, h1, h2, h3⟩ := split_pair t.val q.val o.val q.isLt o.isLt
  exact funext fun a => Fin.ext (match a with
    | ⟨0, _⟩ => h0
    | ⟨1, _⟩ => h1
    | ⟨2, _⟩ => h2
    | ⟨3, _⟩ => h3)

/-- The first index of quad `q`. -/
theorem v29_at (t : Fin 11) (q : Fin 1792) (o : Fin 2880) :
    val_main_v29 (F := Ideal) x4 (ix3 t q o) = (half4 (x4 (ix3 t ⟨q.val / 2, by omega⟩ o)) (q.val % 2) &&& 3#4).setWidth 32 := by
  rw [val_main_v29_apply, idx29]
  unfold val_main_v28
  refine (joined _ _ _ t _ (q.val % 2) (by omega) o).trans ?_
  by_cases h : q.val % 2 = 0
  · rw [if_pos h, h, val_main_v26_apply, v21_at]
    exact congrArg (fun i => (half4 (x4 i) 0 &&& 3#4).setWidth 32) (funext fun a => Fin.ext (match a with
      | ⟨0, _⟩ => rfl
      | ⟨1, _⟩ => rfl
      | ⟨2, _⟩ => rfl))
  · have h1 : q.val % 2 = 1 := by omega
    rw [if_neg h, h1, val_main_v27_apply, v25_at]
    exact congrArg (fun i => (half4 (x4 i) 1 &&& 3#4).setWidth 32) (funext fun a => Fin.ext (match a with
      | ⟨0, _⟩ => rfl
      | ⟨1, _⟩ => rfl
      | ⟨2, _⟩ => rfl))

/-- The second index of quad `q`. -/
theorem v41_at (t : Fin 11) (q : Fin 1792) (o : Fin 2880) :
    val_main_v41 (F := Ideal) x4 (ix3 t q o) = (half4 (x4 (ix3 t ⟨q.val / 2, by omega⟩ o)) (q.val % 2) >>> 2).setWidth 32 := by
  rw [val_main_v41_apply]
  refine (congrArg (val_main_v40 (F := Ideal) x4) (idx29 t q o)).trans ?_
  unfold val_main_v40
  refine (joined _ _ _ t _ (q.val % 2) (by omega) o).trans ?_
  by_cases h : q.val % 2 = 0
  · rw [if_pos h, h, val_main_v38_apply, v33_at]
    exact congrArg (fun i => (half4 (x4 i) 0 >>> 2).setWidth 32) (funext fun a => Fin.ext (match a with
      | ⟨0, _⟩ => rfl
      | ⟨1, _⟩ => rfl
      | ⟨2, _⟩ => rfl))
  · have h1 : q.val % 2 = 1 := by omega
    rw [if_neg h, h1, val_main_v39_apply, v37_at]
    exact congrArg (fun i => (half4 (x4 i) 1 >>> 2).setWidth 32) (funext fun a => Fin.ext (match a with
      | ⟨0, _⟩ => rfl
      | ⟨1, _⟩ => rfl
      | ⟨2, _⟩ => rfl))

/-- Row-major arithmetic: 56 groups of 32 quads. -/
theorem split_group (t g s o : ℕ) (hg : g < 56) (hs : s < 32) (ho : o < 2880) :
    ((((t * 56 + g) * 32 + s) * 1 + 0) * 2880 + o) / 5160960 = t ∧ ((((t * 56 + g) * 32 + s) * 1 + 0) * 2880 + o) / 2880 % 1792 = 32 * g + s
      ∧ ((((t * 56 + g) * 32 + s) * 1 + 0) * 2880 + o) % 2880 = o := by
  have e : ((((t * 56 + g) * 32 + s) * 1 + 0) * 2880 + o) / 2880 = t * 1792 + (32 * g + s) := by omega
  refine ⟨by omega, ?_, by omega⟩
  rw [e]; omega

/-- The quads grouped: quad `s` of group `g` is quad `32 g + s`. -/
theorem idx44 (t : Fin 11) (g : Fin 56) (s : Fin 32) (o : Fin 2880) (q : Fin 1792) (hq : q.val = 32 * g.val + s.val) :
    idx_main_v44 (ix5 t g s 0 o) = ix3 t q o := by
  obtain ⟨h0, h1, h2⟩ := split_group t.val g.val s.val o.val g.isLt s.isLt o.isLt
  exact funext fun a => Fin.ext (match a with
    | ⟨0, _⟩ => h0
    | ⟨1, _⟩ => h1.trans hq.symm
    | ⟨2, _⟩ => h2)

/-- The two scattered nibbles at position `p` of quad `s` of group `g`. -/
theorem v56_at (t : Fin 11) (g : Fin 56) (s : Fin 32) (p : Fin 4) (o : Fin 2880) (q : Fin 1792) (hq : q.val = 32 * g.val + s.val)
    (ha : Asc (half4 (x4 (ix3 t ⟨q.val / 2, by omega⟩ o)) (q.val % 2))) :
    val_main_v56 (F := Ideal) x3 x4 (ix5 t g s p o)
      = num4 (pick (lo4 (x3 (ix3 t q o))) (hi4 (x3 (ix3 t q o))) (half4 (x4 (ix3 t ⟨q.val / 2, by omega⟩ o)) (q.val % 2)) p.val) := by
  rw [← two_pick _ _ _ _ ha]
  have z : FloatOps.ofBits (F := Ideal) .bf16 0x0000#16 = 0 := by simp [Ideal.ofBits, Ideal.ieee]
  have e44 := idx44 t g s o q hq
  have a45 : val_main_v45 (F := Ideal) x4 (ix5 t g s p o) = val_main_v29 (F := Ideal) x4 (ix3 t q o) := by
    rw [val_main_v45_apply, val_main_v44_apply]
    exact congrArg (val_main_v29 (F := Ideal) x4) e44
  have a51 : val_main_v51 (F := Ideal) x4 (ix5 t g s p o) = val_main_v41 (F := Ideal) x4 (ix3 t q o) := by
    rw [val_main_v51_apply, val_main_v50_apply]
    exact congrArg (val_main_v41 (F := Ideal) x4) e44
  have a46 : val_main_v46 (F := Ideal) (ix5 t g s p o) = BitVec.ofNat 32 p.val := by
    rw [val_main_v46_apply, val_main_v43_apply, val_main_v42_apply]; rfl
  have a52 : val_main_v52 (F := Ideal) (ix5 t g s p o) = BitVec.ofNat 32 p.val := by
    rw [val_main_v52_apply, val_main_v43_apply, val_main_v42_apply]; rfl
  have c2 : val_main_call2_v0 (F := Ideal) x3 (ix5 t g s p o) = num4 (lo4 (x3 (ix3 t q o))) := by
    rw [val_main_call2_v0_apply, val_main_v48_apply]
    exact (congrArg (val_main_v10 (F := Ideal) x3) e44).trans (v10_at x3 _)
  have c3 : val_main_call3_v0 (F := Ideal) x3 (ix5 t g s p o) = num4 (hi4 (x3 (ix3 t q o))) := by
    rw [val_main_call3_v0_apply, val_main_v54_apply]
    exact (congrArg (val_main_v18 (F := Ideal) x3) e44).trans (v18_at x3 _)
  have b49 : val_main_v49 (F := Ideal) x3 x4 (ix5 t g s p o) = _ :=
    (val_main_v49_apply x3 x4 _).trans (by rw [val_main_v47_apply, a45, a46, c2, v29_at, val_main_call2_v1_apply, val_main_cst_apply, z])
  have b55 : val_main_v55 (F := Ideal) x3 x4 (ix5 t g s p o) = _ :=
    (val_main_v55_apply x3 x4 _).trans (by rw [val_main_v53_apply, a51, a52, c3, v41_at, val_main_call3_v1_apply, val_main_cst_12_apply, z])
  rw [val_main_v56_apply, b49, b55, select_pos _ p.val p.isLt, select_pos _ p.val p.isLt]
  rfl

/-- Row-major arithmetic: 56 groups of 32 quads of 4 rows. -/
theorem split_row (t κ o : ℕ) (hκ : κ < 7168) (ho : o < 2880) :
    ((t * 7168 + κ) * 2880 + o) / 20643840 = t ∧ ((t * 7168 + κ) * 2880 + o) / 368640 % 56 = κ / 128
      ∧ ((t * 7168 + κ) * 2880 + o) / 11520 % 32 = κ / 4 % 32 ∧ ((t * 7168 + κ) * 2880 + o) / 2880 % 4 = κ % 4
      ∧ ((t * 7168 + κ) * 2880 + o) % 2880 = o := by
  have e : ((t * 7168 + κ) * 2880 + o) / 2880 = t * 7168 + κ := by omega
  have e2 : ((t * 7168 + κ) * 2880 + o) / 368640 = t * 56 + κ / 128 := by
    rw [show (368640 : ℕ) = 2880 * 128 from rfl, ← Nat.div_div_eq_div_mul, e]; omega
  have e3 : ((t * 7168 + κ) * 2880 + o) / 11520 = t * 1792 + κ / 4 := by
    rw [show (11520 : ℕ) = 2880 * 4 from rfl, ← Nat.div_div_eq_div_mul, e]; omega
  refine ⟨by omega, ?_, ?_, ?_, by omega⟩
  · rw [e2]; omega
  · rw [e3]; omega
  · rw [e]; omega

/-- Row `κ` of the weights is position `κ % 4` of quad `κ / 4 % 32` of group `κ / 128`. -/
theorem idx60 (t : Fin 11) (κ : Fin 7168) (o : Fin 2880) :
    idx_main_v60 (ix3 t κ o) = ix5 t (⟨κ.val / 128, by omega⟩ : Fin 56) (⟨κ.val / 4 % 32, by omega⟩ : Fin 32) (⟨κ.val % 4, by omega⟩ : Fin 4) o := by
  obtain ⟨h0, h1, h2, h3, h4⟩ := split_row t.val κ.val o.val κ.isLt o.isLt
  exact funext fun a => Fin.ext (match a with
    | ⟨0, _⟩ => h0
    | ⟨1, _⟩ => h1
    | ⟨2, _⟩ => h2
    | ⟨3, _⟩ => h3
    | ⟨4, _⟩ => h4)

/-- The reference's weight is the weight of the specification. -/
theorem v60_at (hasc : Cert.Spec.AscAll x4) (t : Fin 11) (κ : Fin 7168) (o : Fin 2880) :
    val_main_v60 (F := Ideal) x3 x4 x5 (ix3 t κ o) = Cert.Spec.wgt x3 x4 x5 t o κ := by
  rw [val_main_v60_apply, idx60, val_main_v59_apply]
  have hq : (⟨κ.val / 4, by omega⟩ : Fin 1792).val = 32 * (⟨κ.val / 128, by omega⟩ : Fin 56).val + (⟨κ.val / 4 % 32, by omega⟩ : Fin 32).val := by
    show κ.val / 4 = 32 * (κ.val / 128) + κ.val / 4 % 32
    have : κ.val / 128 = κ.val / 4 / 32 := by rw [Nat.div_div_eq_div_mul]
    omega
  rw [v56_at x3 x4 t _ _ _ o ⟨κ.val / 4, by omega⟩ hq (hasc t o ⟨κ.val / 4, by omega⟩), val_main_v58_apply, val_main_v57_apply]
  have e8 : (⟨κ.val / 4 / 2, by omega⟩ : Fin 896) = ⟨κ.val / 8, by omega⟩ := Fin.ext (by show κ.val / 4 / 2 = κ.val / 8; rw [Nat.div_div_eq_div_mul])
  unfold Cert.Spec.wgt
  show num4 (pick _ _ (half4 (x4 (ix3 t (⟨κ.val / 4 / 2, _⟩ : Fin 896) o)) (κ.val / 4 % 2)) (κ.val % 4)) * _ = _
  rw [e8]
  refine congrArg (_ * ·) (congrArg x5 (funext fun a => Fin.ext (match a with
    | ⟨0, _⟩ => rfl
    | ⟨1, _⟩ => rfl
    | ⟨2, _⟩ => rfl)))

end Chain

end Cert.ReferenceIdeal.Hand

end
-- ==== Proof.RValue.lean ====
module

public import proofs.«01_k».proof.Proof.RWeight
public import Idealize.ShloMosaic.Lib.Pipeline.ValueKit
public import Idealize.ShloMosaic.Lib.ReduceAll
public import proofs.«01_k».proof.Proof.Gen.Pre_ascending

@[expose] public section

set_option maxRecDepth 16384

/-! The reference's result at an index. -/

noncomputable section

namespace Cert.ReferenceIdeal.Hand

open Idealize.ShloMosaic Idealize.ShloMosaic.TcCoe
open Cert.ReferenceIdeal Cert.ReferenceIdeal.Gen Cert.ReferenceIdeal.Read
open Cert.KernelIdeal.Hand Cert.Bits4

section Tail

variable (x : Vec Ideal S2x128x7168 .bf16) (x3 : Vec Ideal S11x1792x2880 .i8) (x4 : Vec Ideal S11x896x2880 .i8) (x5 : Vec Ideal S11x56x2880 .bf16) (x6 : Vec Ideal S12 .i32)

/-- The activations flattened to rows. -/
def rows : Vec Ideal S256x7168 .bf16 := shapeCast _ x shapeCasts_S2x128x7168_S256x7168

/-- Row `r` of the flattened activations. -/
theorem rows_at (r : Fin 256) (k : Fin 7168) : rows x (ix2 r k) = x (ix3 ⟨r.val / 128, by omega⟩ ⟨r.val % 128, by omega⟩ k) := by
  pointwise [rows]

/-- Whether row `r` is tenant `t`'s, as the reference computes it. -/
theorem mask_at (r : Fin 256) (t : Fin 11) (o : Fin 2880) (X : EReal) :
    Scalar.select (val_main_call4_v1 (F := Ideal) x6 (ix3 r t o)) X 0 = if Own (x6 (ix1 t.castSucc)) (x6 (ix1 t.succ)) r.val then X else 0 := by
  rw [← mask_own, val_main_call4_v1_apply, val_main_v75_apply, val_main_v73_apply, val_main_v67_apply, val_main_v72_apply, val_main_v65_apply, val_main_v64_apply,
    val_main_v63_apply, val_main_v66_apply, val_main_v62_apply, val_main_v61_apply, val_main_v70_apply, val_main_v62_apply, val_main_v61_apply, val_main_v71_apply,
    val_main_v69_apply, val_main_v68_apply]
  have e0 : idx_main_v63 (idx_main_v64 (idx_main_v65 (idx_main_v75 (idx_main_call4_v1 (ix3 r t o))))) = ix1 t.castSucc :=
    funext fun a => Fin.ext (match a with | ⟨0, _⟩ => rfl)
  have e1 : idx_main_v68 (idx_main_v69 (idx_main_v71 (idx_main_v75 (idx_main_call4_v1 (ix3 r t o))))) = ix1 t.succ :=
    funext fun a => Fin.ext (match a with | ⟨0, _⟩ => Nat.add_comm 1 t.val)
  rw [e0, e1]
  rfl

/-- Tenant `t`'s part of row `r`. -/
theorem v76_at (hasc : Cert.Spec.AscAll x4) (r : Fin 256) (t : Fin 11) (o : Fin 2880) :
    val_main_v76 (F := Ideal) x3 x4 x5 x6 (rows x) (ix3 r t o) = Cert.Spec.part x x3 x4 x5 x6 t r o := by
  have z : val_main_call4_v2 (F := Ideal) (ix3 r t o) = 0 := by
    rw [val_main_call4_v2_apply, val_main_call4_v0_apply, val_main_cst_13_apply]; exact Ideal.ofBits_zero_f32
  rw [val_main_v76_apply, z, mask_at]
  unfold Cert.Spec.part
  have e : val_main_v74 (F := Ideal) x3 x4 x5 (rows x) (ix3 r t o)
      = ∑ k : Fin 7168, x (ix3 ⟨r.val / 128, by omega⟩ ⟨r.val % 128, by omega⟩ k) * Cert.Spec.wgt x3 x4 x5 t o k := by
    rw [val_main_v74_apply]
    refine Finset.sum_congr rfl fun k _ => ?_
    have el : lidx_main_v74 (ix3 r t o) k = ix2 r k := funext fun a => Fin.ext (match a with | ⟨0, _⟩ => rfl | ⟨1, _⟩ => rfl)
    have er : ridx_main_v74 (ix3 r t o) k = ix3 t k o := funext fun a => Fin.ext (match a with | ⟨0, _⟩ => rfl | ⟨1, _⟩ => rfl | ⟨2, _⟩ => rfl)
    rw [el, er, rows_at, v60_at x3 x4 x5 hasc]
  rw [e]

/-- The reference's result: the base term it is given and the tenants' parts. -/
theorem v79_at (hasc : Cert.Spec.AscAll x4) (b : Vec Ideal S256x2880 .f32) (r : Fin 256) (o : Fin 2880) :
    val_main_v79 (F := Ideal) x3 x4 x5 x6 b (rows x) (ix2 r o) = b (ix2 r o) + ∑ t : Fin 11, Cert.Spec.part x x3 x4 x5 x6 t r o := by
  rw [val_main_v79_apply, val_main_v78_apply, val_main_v77_apply, val_main_cst_14_apply]
  have z : FloatOps.ofBits (F := Ideal) .f32 0x00000000#32 = 0 := Ideal.ofBits_zero_f32
  rw [z, zero_add]
  refine congrArg (b (ix2 r o) + ·) (Finset.sum_congr rfl fun t _ => ?_)
  have e : idx_main_v77 (ix2 r o) t = ix3 r t o := funext fun a => Fin.ext (match a with | ⟨0, _⟩ => rfl | ⟨1, _⟩ => rfl | ⟨2, _⟩ => rfl)
  rw [e]
  exact v76_at x x3 x4 x5 x6 hasc r t o

end Tail

/-- The base term's body at row `r`, column `o`. -/
theorem pay1_apply (x : Vec Ideal S2x128x7168 .bf16) (w : Vec Ideal S7168x2880 .fp8e4m3) (s : Vec Ideal S2880 .f32) (r : Fin 256) (o : Fin 2880) :
    k0_pay1 x w s (ix2 r o) = Cert.Spec.base x w s r o := by
  unfold Cert.Spec.base
  pointwise [k0_pay1]

section Region

variable (m : (ℓ : Loc nD τ sig) → Buf (Elt Ideal) ℓ)

/-- The one block of the activations is the array, -/
theorem iblk_0 (c : Dev nD) (t : Fin cfg0.N) : (iblk m c 0 t : Vec Ideal S2x128x7168 .bf16) = m ((c.tc : Thread nD τ).loc main_arg0) :=
  Eq.trans (funext fun y => congrArg (V m c main_arg0 : Vec Ideal S2x128x7168 .bf16) (funext fun a => Fin.ext (match a with
    | ⟨0, _⟩ => by show 0 * 2 + 1 * (y 0).val = (y 0).val; omega
    | ⟨1, _⟩ => by show 0 * 128 + 1 * (y 1).val = (y 1).val; omega
    | ⟨2, _⟩ => by show 0 * 7168 + 1 * (y 2).val = (y 2).val; omega))) (V_main_arg0 m c)

/-- that of the base weights is the array, -/
theorem iblk_1 (c : Dev nD) (t : Fin cfg0.N) : (iblk m c 1 t : Vec Ideal S7168x2880 .fp8e4m3) = m ((c.tc : Thread nD τ).loc main_arg1) :=
  Eq.trans (funext fun y => congrArg (V m c main_arg1 : Vec Ideal S7168x2880 .fp8e4m3) (funext fun a => Fin.ext (match a with
    | ⟨0, _⟩ => by show 0 * 7168 + 1 * (y 0).val = (y 0).val; omega
    | ⟨1, _⟩ => by show 0 * 2880 + 1 * (y 1).val = (y 1).val; omega))) (V_main_arg1 m c)

/-- and that of the base scales is the array. -/
theorem iblk_2 (c : Dev nD) (t : Fin cfg0.N) : (iblk m c 2 t : Vec Ideal S2880 .f32) = m ((c.tc : Thread nD τ).loc main_arg2) :=
  Eq.trans (funext fun y => congrArg (V m c main_arg2 : Vec Ideal S2880 .f32) (funext fun a => Fin.ext (match a with
    | ⟨0, _⟩ => by show 0 * 2880 + 1 * (y 0).val = (y 0).val; omega))) (V_main_arg2 m c)

/-- The block the body leaves is its payload on whole blocks. -/
theorem out_pay (x : Vec Ideal S2x128x7168 .bf16) (w : Vec Ideal S7168x2880 .fp8e4m3) (s : Vec Ideal S2880 .f32) : out0_3 x w s = k0_pay1 x w s := by
  unfold out0_3
  rw [View.canon_cons_unit_lit _ _ _ (by decide), View.ld_unit_lit _ x (by decide), View.ld_unit_lit _ w (by decide), View.ld_unit_lit _ s (by decide)]

/-- The base term the region leaves. -/
theorem reg_at (c : Dev nD) : Value.reg_main_v1 m c
    = k0_pay1 (F := Ideal) (m ((c.tc : Thread nD τ).loc main_arg0)) (m ((c.tc : Thread nD τ).loc main_arg1)) (m ((c.tc : Thread nD τ).loc main_arg2)) := by
  unfold Value.reg_main_v1
  refine (dats m 0 c).arrAt_eq_of_after_last 3 t0_0 (by decide +kernel) _ fun j => ?_
  rw [after0_3, iblk_0, iblk_1, iblk_2, out_pay]
  generalize k0_pay1 (F := Ideal) (m ((c.tc : Thread nD τ).loc main_arg0)) (m ((c.tc : Thread nD τ).loc main_arg1)) (m ((c.tc : Thread nD τ).loc main_arg2)) = G
  blk_simp

/-- The reference's run: the result is the specification's output of the arguments, the arguments are unchanged. -/
theorem run (ρ : Dev nD → PrngReg) (hasc : ∀ c : Dev nD, Cert.Spec.AscAll (m ((c.tc : Thread nD τ).loc main_arg4)))
    (G : (c : Dev nD) → Vec Ideal S256x2880 .bf16)
    (hG : ∀ (c : Dev nD) (r : Fin 256) (o : Fin 2880), G c (ix2 r o) = Cert.Spec.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) r o) :
    θ_run defs (onTc (τ := τ) (main (F := Ideal))) ⟨m, fun _ => 0, ρ⟩ fun r => ∀ c : Dev nD,
      r.2.mem ((c.tc : Thread nD τ).loc main_v79) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run (F := Ideal) m ρ)
  rw [val_main_v79_eq, Value.exit_main_arg3, Value.exit_main_arg4, Value.exit_main_arg5, Value.exit_main_arg6, Value.exit_main_v0, Value.exit_main_v1, reg_at]
  funext i
  obtain ⟨r, o, rfl⟩ : ∃ (r : Fin 256) (o : Fin 2880), i = ix2 r o := ⟨i (0 : Fin 2), i (1 : Fin 2), funext fun a => match a with | ⟨0, _⟩ => rfl | ⟨1, _⟩ => rfl⟩
  rw [hG]
  refine (v79_at (m ((c.tc : Thread nD τ).loc main_arg0)) _ _ _ _ (hasc c) _ r o).trans ?_
  rw [pay1_apply]
  rfl

end Region

/-- The even quad's index test, -/
theorem asc_even : ∀ b : BitVec 8,
    IntOp.cmpi .slt (IntOp.andi (b.setWidth 32) 3#32) (IntOp.andi (IntOp.shrsi .host (b.setWidth 32) 2#32) 3#32) = 1#1 → Asc (half4 b 0) := by
  unfold Asc; decide +kernel
/-- and the odd quad's. -/
theorem asc_odd : ∀ b : BitVec 8,
    IntOp.cmpi .slt (IntOp.andi (IntOp.shrsi .host (b.setWidth 32) 4#32) 3#32) (IntOp.andi (IntOp.shrsi .host (b.setWidth 32) 6#32) 3#32) = 1#1 → Asc (half4 b 1) := by
  unfold Asc; decide +kernel

/-- Of two bits whose conjunction is one, both are one. -/
theorem both_one : ∀ a b : BitVec 1, IntOp.andi a b = 1#1 → a = 1#1 ∧ b = 1#1 := by decide

/-- The precondition: every quad's two indices are in ascending order. -/
theorem asc_of_pre (a0 : Vec Ideal S2x128x7168 .bf16) (a1 : Vec Ideal S7168x2880 .fp8e4m3) (a2 : Vec Ideal S2880 .f32) (a3 : Vec Ideal S11x1792x2880 .i8)
    (a4 : Vec Ideal S11x896x2880 .i8) (a5 : Vec Ideal S11x56x2880 .bf16) (a6 : Vec Ideal S12 .i32)
    (h : Cert.Pre_ascending.fn (F := Ideal) a0 a1 a2 a3 a4 a5 a6 = fun _ => 1#1) : Cert.Spec.AscAll a4 := by
  intro t o q
  unfold Cert.Pre_ascending.fn Cert.Pre_ascending.fn_part1 at h
  have : Subsingleton Cert.Pre_ascending.S_.Idx := ⟨fun a b => funext fun i => i.elim0⟩
  have e := Host.reduce_andi_all _ _ _ _ (fun i => i.elim0) (congrFun h fun i => i.elim0) (ix3 t ⟨q.val / 2, by omega⟩ o)
  obtain ⟨e0, e1⟩ := both_one _ _ e
  by_cases hq : q.val % 2 = 0
  · rw [hq]; exact asc_even _ e0
  · rw [show q.val % 2 = 1 by omega]; exact asc_odd _ e1

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.Pre_ascending
public import proofs.«01_k».proof.Proof.Gen.ReferenceIdeal.Run
public import proofs.«01_k».proof.Proof.Gen.ReferenceIdeal.Read
public import proofs.«01_k».proof.Proof.KFrame
public import proofs.«01_k».proof.Proof.IFrame
public import proofs.«01_k».proof.Proof.IFinal
public import proofs.«01_k».proof.Proof.RValue
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- Each rewrite of the idealized program is its rule's statement. -/
theorem preserves : Cert.preserves_Kernel_KernelIdeal :=
  ⟨IdealRules.bf16_pair.bufferStatement _ _, IdealRules.bf16_pair.halfStatement _, IdealRules.bf16_pair.statement _ _,
    IdealRules.bf16_pair.statement _ _, IdealRules.bf16_pair.statement _ _⟩

/-- The idealized kernel and the reference leave equal results, for index bytes whose pairs ascend. -/
theorem algebraic : Cert.algebraic_KernelIdeal_ReferenceIdeal_pre_ascending := by
  intro m g m' g' hpre hargs
  have hasc := fun c => Cert.ReferenceIdeal.Hand.asc_of_pre _ _ _ _ _ _ _ (hpre c)
  refine ⟨fun c => Cert.KernelIdeal.Hand.Value.outArr m c, Cert.KernelIdeal.Hand.Value.run m g hasc, ?_⟩
  refine Cert.ReferenceIdeal.Hand.run m' g' (fun c => ?_) (fun c => Cert.KernelIdeal.Hand.Value.outArr m c) fun c r o => ?_
  · obtain ⟨-, -, -, -, h4, -, -⟩ := hargs c
    exact h4 ▸ hasc c
  · obtain ⟨h0, h1, h2, h3, h4, h5, h6⟩ := hargs c
    rw [h0, h1, h2, h3, h4, h5, h6]
    exact Cert.KernelIdeal.Hand.Value.outArr_apply m c r o

/-- All the claims together. -/
theorem claim : Cert.Claim := ⟨Cert.Kernel.Gen.facts, Cert.KernelIdeal.Gen.facts, Cert.ReferenceIdeal.Gen.facts, Cert.Pre_ascending.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, preserves, algebraic⟩

end Cert.Proof

end
